-- ==== Defs.lean ====
def Pre_Kernel [hPre_listed : Cert.Pre_listed.Facts] (m : (ℓ : Loc Cert.Kernel.nD Cert.Kernel.τ Cert.Kernel.sig) → Buf (Elt Bits) ℓ) : Prop :=
  ∀ c : Dev Cert.Kernel.nD,
    (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_listed : Cert.Pre_listed.Facts] (m : (ℓ : Loc Cert.KernelIdeal.nD Cert.KernelIdeal.τ Cert.KernelIdeal.sig) → Buf (Elt Ideal) ℓ) : Prop :=
  ∀ c : Dev Cert.KernelIdeal.nD,
    (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_Fetch [hPre_placed : Cert.Pre_placed.Facts] (m : (ℓ : Loc Cert.Fetch.nD Cert.Fetch.τ Cert.Fetch.sig) → Buf (Elt Bits) ℓ) : Prop :=
  ∀ c : Dev Cert.Fetch.nD,
    (Cert.Pre_placed.fn (F := Bits) (m ((c.tc : Thread Cert.Fetch.nD Cert.Fetch.τ).loc Cert.Fetch.main_arg0)) (m ((c.tc : Thread Cert.Fetch.nD Cert.Fetch.τ).loc Cert.Fetch.main_arg1)) (m ((c.tc : Thread Cert.Fetch.nD Cert.Fetch.τ).loc Cert.Fetch.main_arg2))) = (fun _ => 1#1)

def Pre_FetchIdeal [hPre_placed : Cert.Pre_placed.Facts] (m : (ℓ : Loc Cert.FetchIdeal.nD Cert.FetchIdeal.τ Cert.FetchIdeal.sig) → Buf (Elt Ideal) ℓ) : Prop :=
  ∀ c : Dev Cert.FetchIdeal.nD,
    (Cert.Pre_placed.fn (F := Ideal) (m ((c.tc : Thread Cert.FetchIdeal.nD Cert.FetchIdeal.τ).loc Cert.FetchIdeal.main_arg0)) (m ((c.tc : Thread Cert.FetchIdeal.nD Cert.FetchIdeal.τ).loc Cert.FetchIdeal.main_arg1)) (m ((c.tc : Thread Cert.FetchIdeal.nD Cert.FetchIdeal.τ).loc Cert.FetchIdeal.main_arg2))) = (fun _ => 1#1)

def Pre_NormedIdeal (m : (ℓ : Loc Cert.NormedIdeal.nD Cert.NormedIdeal.τ Cert.NormedIdeal.sig) → Buf (Elt Ideal) ℓ) : Prop :=
  True

def Pre_NormedIdeal_placed [hPre_placed : Cert.Pre_placed.Facts] (m : (ℓ : Loc Cert.NormedIdeal.nD Cert.NormedIdeal.τ Cert.NormedIdeal.sig) → Buf (Elt Ideal) ℓ) : Prop :=
  ∀ c : Dev Cert.NormedIdeal.nD,
    (Cert.Pre_placed.fn (F := Ideal) (m ((c.tc : Thread Cert.NormedIdeal.nD Cert.NormedIdeal.τ).loc Cert.NormedIdeal.main_arg0)) (m ((c.tc : Thread Cert.NormedIdeal.nD Cert.NormedIdeal.τ).loc Cert.NormedIdeal.main_arg1)) (m ((c.tc : Thread Cert.NormedIdeal.nD Cert.NormedIdeal.τ).loc Cert.NormedIdeal.main_arg2))) = (fun _ => 1#1)

def quiescent_Kernel [hKernel : Cert.Kernel.Facts] [hPre_listed : Cert.Pre_listed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ r.2.sem = fun _ => 0)

def quiescent_Fetch [hFetch : Cert.Fetch.Facts] [hPre_placed : Cert.Pre_placed.Facts] : Prop :=
  ∀ (m : (ℓ : Loc Cert.Fetch.nD Cert.Fetch.τ Cert.Fetch.sig) → Buf (Elt Bits) ℓ) (g : Dev Cert.Fetch.nD → PrngReg), Pre_Fetch m →
    θ_run (Cert.Fetch.defs (F := Bits)) (onTc (τ := Cert.Fetch.τ) (Cert.Fetch.main (F := Bits))) ⟨m, fun _ => 0, g⟩ (fun r => (∀ c : Dev Cert.Fetch.nD,
      r.2.mem ((c.tc : Thread Cert.Fetch.nD Cert.Fetch.τ).loc Cert.Fetch.main_arg0) = m ((c.tc : Thread Cert.Fetch.nD Cert.Fetch.τ).loc Cert.Fetch.main_arg0)
      ∧ r.2.mem ((c.tc : Thread Cert.Fetch.nD Cert.Fetch.τ).loc Cert.Fetch.main_arg1) = m ((c.tc : Thread Cert.Fetch.nD Cert.Fetch.τ).loc Cert.Fetch.main_arg1)
      ∧ r.2.mem ((c.tc : Thread Cert.Fetch.nD Cert.Fetch.τ).loc Cert.Fetch.main_arg2) = m ((c.tc : Thread Cert.Fetch.nD Cert.Fetch.τ).loc Cert.Fetch.main_arg2))
      ∧ r.2.sem = fun _ => 0)

def quiescent_FetchIdeal [hFetchIdeal : Cert.FetchIdeal.Facts] [hPre_placed : Cert.Pre_placed.Facts] : Prop :=
  ∀ (m : (ℓ : Loc Cert.FetchIdeal.nD Cert.FetchIdeal.τ Cert.FetchIdeal.sig) → Buf (Elt Ideal) ℓ) (g : Dev Cert.FetchIdeal.nD → PrngReg), Pre_FetchIdeal m →
    θ_run (Cert.FetchIdeal.defs (F := Ideal)) (onTc (τ := Cert.FetchIdeal.τ) (Cert.FetchIdeal.main (F := Ideal))) ⟨m, fun _ => 0, g⟩ (fun r => (∀ c : Dev Cert.FetchIdeal.nD,
      r.2.mem ((c.tc : Thread Cert.FetchIdeal.nD Cert.FetchIdeal.τ).loc Cert.FetchIdeal.main_arg0) = m ((c.tc : Thread Cert.FetchIdeal.nD Cert.FetchIdeal.τ).loc Cert.FetchIdeal.main_arg0)
      ∧ r.2.mem ((c.tc : Thread Cert.FetchIdeal.nD Cert.FetchIdeal.τ).loc Cert.FetchIdeal.main_arg1) = m ((c.tc : Thread Cert.FetchIdeal.nD Cert.FetchIdeal.τ).loc Cert.FetchIdeal.main_arg1)
      ∧ r.2.mem ((c.tc : Thread Cert.FetchIdeal.nD Cert.FetchIdeal.τ).loc Cert.FetchIdeal.main_arg2) = m ((c.tc : Thread Cert.FetchIdeal.nD Cert.FetchIdeal.τ).loc Cert.FetchIdeal.main_arg2))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1)
      ∧ r.2.mem ((c.tc : Thread Cert.NormedIdeal.nD Cert.NormedIdeal.τ).loc Cert.NormedIdeal.main_arg2) = m ((c.tc : Thread Cert.NormedIdeal.nD Cert.NormedIdeal.τ).loc Cert.NormedIdeal.main_arg2))
      ∧ r.2.sem = fun _ => 0)

def quiescent_NormedIdeal_pre_placed [hNormedIdeal : Cert.NormedIdeal.Facts] [hPre_placed : Cert.Pre_placed.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal_placed m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1)
      ∧ r.2.mem ((c.tc : Thread Cert.NormedIdeal.nD Cert.NormedIdeal.τ).loc Cert.NormedIdeal.main_arg2) = m ((c.tc : Thread Cert.NormedIdeal.nD Cert.NormedIdeal.τ).loc Cert.NormedIdeal.main_arg2))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Outproj_OutprojIdeal : Prop :=
  True

def algebraic_OutprojIdeal_MixedIdeal [hOutprojIdeal : Cert.OutprojIdeal.Facts] [hMixedIdeal : Cert.MixedIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.MixedIdeal.nD Cert.MixedIdeal.τ Cert.MixedIdeal.sig) → Buf (Elt Ideal) ℓ) (g' : Dev Cert.MixedIdeal.nD → PrngReg), Pre_OutprojIdeal m →
    (∀ c : Dev Cert.OutprojIdeal.nD,
      m' ((c.tc : Thread Cert.MixedIdeal.nD Cert.MixedIdeal.τ).loc Cert.MixedIdeal.main_arg0) = m ((c.tc : Thread Cert.OutprojIdeal.nD Cert.OutprojIdeal.τ).loc Cert.OutprojIdeal.main_arg0)
      ∧ m' ((c.tc : Thread Cert.MixedIdeal.nD Cert.MixedIdeal.τ).loc Cert.MixedIdeal.main_arg1) = m ((c.tc : Thread Cert.OutprojIdeal.nD Cert.OutprojIdeal.τ).loc Cert.OutprojIdeal.main_arg1)
      ∧ m' ((c.tc : Thread Cert.MixedIdeal.nD Cert.MixedIdeal.τ).loc Cert.MixedIdeal.main_arg2) = m ((c.tc : Thread Cert.OutprojIdeal.nD Cert.OutprojIdeal.τ).loc Cert.OutprojIdeal.main_arg2)
      ∧ m' ((c.tc : Thread Cert.MixedIdeal.nD Cert.MixedIdeal.τ).loc Cert.MixedIdeal.main_arg3) = m ((c.tc : Thread Cert.OutprojIdeal.nD Cert.OutprojIdeal.τ).loc Cert.OutprojIdeal.main_arg3)
      ∧ m' ((c.tc : Thread Cert.MixedIdeal.nD Cert.MixedIdeal.τ).loc Cert.MixedIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v5) = v0 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4))

def preserves_Fetch_FetchIdeal : Prop :=
  True

def algebraic_FetchIdeal_NormedIdeal [hFetchIdeal : Cert.FetchIdeal.Facts] [hNormedIdeal : Cert.NormedIdeal.Facts] [hPre_placed : Cert.Pre_placed.Facts] : Prop :=
  ∀ (m : (ℓ : Loc Cert.FetchIdeal.nD Cert.FetchIdeal.τ Cert.FetchIdeal.sig) → Buf (Elt Ideal) ℓ) (g : Dev Cert.FetchIdeal.nD → PrngReg)
    (m' : (ℓ : Loc Cert.NormedIdeal.nD Cert.NormedIdeal.τ Cert.NormedIdeal.sig) → Buf (Elt Ideal) ℓ) (g' : Dev Cert.NormedIdeal.nD → PrngReg), Pre_FetchIdeal m →
    (∀ c : Dev Cert.FetchIdeal.nD,
      m' ((c.tc : Thread Cert.NormedIdeal.nD Cert.NormedIdeal.τ).loc Cert.NormedIdeal.main_arg0) = m ((c.tc : Thread Cert.FetchIdeal.nD Cert.FetchIdeal.τ).loc Cert.FetchIdeal.main_arg0)
      ∧ m' ((c.tc : Thread Cert.NormedIdeal.nD Cert.NormedIdeal.τ).loc Cert.NormedIdeal.main_arg1) = m ((c.tc : Thread Cert.FetchIdeal.nD Cert.FetchIdeal.τ).loc Cert.FetchIdeal.main_arg1)
      ∧ m' ((c.tc : Thread Cert.NormedIdeal.nD Cert.NormedIdeal.τ).loc Cert.NormedIdeal.main_arg2) = m ((c.tc : Thread Cert.FetchIdeal.nD Cert.FetchIdeal.τ).loc Cert.FetchIdeal.main_arg2)) →
    ∃ (v0 : (c : Dev Cert.FetchIdeal.nD) → Buf (Elt Ideal) ((c.tc : Thread Cert.FetchIdeal.nD Cert.FetchIdeal.τ).loc Cert.FetchIdeal.main_v1)),
      θ_run (Cert.FetchIdeal.defs (F := Ideal)) (onTc (τ := Cert.FetchIdeal.τ) (Cert.FetchIdeal.main (F := Ideal))) ⟨m, fun _ => 0, g⟩ (fun r => ∀ c : Dev Cert.FetchIdeal.nD,
          r.2.mem ((c.tc : Thread Cert.FetchIdeal.nD Cert.FetchIdeal.τ).loc Cert.FetchIdeal.main_v1) = v0 c
          ∧ r.2.mem ((c.tc : Thread Cert.FetchIdeal.nD Cert.FetchIdeal.τ).loc Cert.FetchIdeal.main_arg0) = m ((c.tc : Thread Cert.FetchIdeal.nD Cert.FetchIdeal.τ).loc Cert.FetchIdeal.main_arg0)
          ∧ r.2.mem ((c.tc : Thread Cert.FetchIdeal.nD Cert.FetchIdeal.τ).loc Cert.FetchIdeal.main_arg1) = m ((c.tc : Thread Cert.FetchIdeal.nD Cert.FetchIdeal.τ).loc Cert.FetchIdeal.main_arg1)
          ∧ r.2.mem ((c.tc : Thread Cert.FetchIdeal.nD Cert.FetchIdeal.τ).loc Cert.FetchIdeal.main_arg2) = m ((c.tc : Thread Cert.FetchIdeal.nD Cert.FetchIdeal.τ).loc Cert.FetchIdeal.main_arg2))
      ∧ θ_run (Cert.NormedIdeal.defs (F := Ideal)) (onTc (τ := Cert.NormedIdeal.τ) (Cert.NormedIdeal.main (F := Ideal))) ⟨m', fun _ => 0, g'⟩ (fun r => ∀ c : Dev Cert.NormedIdeal.nD,
          r.2.mem ((c.tc : Thread Cert.NormedIdeal.nD Cert.NormedIdeal.τ).loc Cert.NormedIdeal.main_v14) = v0 c
          ∧ r.2.mem ((c.tc : Thread Cert.NormedIdeal.nD Cert.NormedIdeal.τ).loc Cert.NormedIdeal.main_arg0) = m' ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m' ((c.tc : Thread Cert.NormedIdeal.nD Cert.NormedIdeal.τ).loc Cert.NormedIdeal.main_arg1)
          ∧ r.2.mem ((c.tc : Thread Cert.NormedIdeal.nD Cert.NormedIdeal.τ).loc Cert.NormedIdeal.main_arg2) = m' ((c.tc : Thread Cert.NormedIdeal.nD Cert.NormedIdeal.τ).loc Cert.NormedIdeal.main_arg2))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hMixedIdeal : Cert.MixedIdeal.Facts) (hFetch : Cert.Fetch.Facts) (hFetchIdeal : Cert.FetchIdeal.Facts) (hNormedIdeal : Cert.NormedIdeal.Facts) (hPre_listed : Cert.Pre_listed.Facts) (hPre_routed : Cert.Pre_routed.Facts) (hPre_placed : Cert.Pre_placed.Facts),
    quiescent_Kernel (hKernel := hKernel) (hPre_listed := hPre_listed)
    ∧ quiescent_KernelIdeal (hKernelIdeal := hKernelIdeal) (hPre_listed := hPre_listed)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Outproj (hOutproj := hOutproj)
    ∧ quiescent_OutprojIdeal (hOutprojIdeal := hOutprojIdeal)
    ∧ quiescent_MixedIdeal (hMixedIdeal := hMixedIdeal)
    ∧ quiescent_Fetch (hFetch := hFetch) (hPre_placed := hPre_placed)
    ∧ quiescent_FetchIdeal (hFetchIdeal := hFetchIdeal) (hPre_placed := hPre_placed)
    ∧ quiescent_NormedIdeal (hNormedIdeal := hNormedIdeal)
    ∧ quiescent_NormedIdeal_pre_placed (hNormedIdeal := hNormedIdeal) (hPre_placed := hPre_placed)
    ∧ preserves_Kernel_KernelIdeal
    ∧ algebraic_KernelIdeal_ReferenceIdeal_pre_routed (hKernelIdeal := hKernelIdeal) (hReferenceIdeal := hReferenceIdeal) (hPre_routed := hPre_routed)
    ∧ preserves_Outproj_OutprojIdeal
    ∧ algebraic_OutprojIdeal_MixedIdeal (hOutprojIdeal := hOutprojIdeal) (hMixedIdeal := hMixedIdeal)
    ∧ preserves_Fetch_FetchIdeal
    ∧ algebraic_FetchIdeal_NormedIdeal (hFetchIdeal := hFetchIdeal) (hNormedIdeal := hNormedIdeal) (hPre_placed := hPre_placed)
-- ==== Pre_listed.lean ====
abbrev S61440x1152 : Shape := ⟨2, ![61440, 1152]⟩
abbrev S1x1024 : Shape := ⟨2, ![1, 1024]⟩
abbrev S32x1024x256 : Shape := ⟨3, ![32, 1024, 256]⟩
abbrev S32x256x1024 : Shape := ⟨3, ![32, 256, 1024]⟩
abbrev S240 : Shape := ⟨1, ![240]⟩
abbrev S1 : Shape := ⟨1, ![1]⟩
abbrev S_ : Shape := ⟨0, ![]⟩

class Facts : Prop where
  bcast_S_S240 : S_.BroadcastsInDim S240 (![] : Fin 0 → Fin S240.rank)
  reducesTo_S240_S_d0 : S240.ReducesTo [0] S_
  h_S_ : 0 < S_.numel

variable [Facts]

def fn {F : FTy → Type} [FloatOps F] (main_arg0 : FVec F S61440x1152 .f32) (main_arg1 : FVec F S1x1024 .f32) (main_arg2 : FVec F S32x1024x256 .f32) (main_arg3 : FVec F S32x1024x256 .f32) (main_arg4 : FVec F S32x256x1024 .f32) (main_arg5 : IVec S240 32) (main_arg6 : IVec S240 32) (main_arg7 : IVec S1 32) : IVec S_ 1 :=
  let main_c : IVec S_ 32 := constantI S_ 32 0#32
  let main_v0 : IVec S240 32 := broadcastInDim S240 ![] bcast_S_S240 main_c
  let main_v1 : IVec S240 1 := cmpi .sge main_arg5 main_v0
  let main_c_0 : IVec S_ 1 := constantI S_ 1 1#1
  let main_v2 : IVec S_ 1 := (fun x v => Host.reduce IntOp.andi x v reducesTo_S240_S_d0 h_S_) main_v1 main_c_0
  let main_c_1 : IVec S_ 32 := constantI S_ 32 32#32
  let main_v3 : IVec S240 32 := broadcastInDim S240 ![] bcast_S_S240 main_c_1
  let main_v4 : IVec S240 1 := cmpi .slt main_arg5 main_v3
  let main_c_2 : IVec S_ 1 := constantI S_ 1 1#1
  let main_v5 : IVec S_ 1 := (fun x v => Host.reduce IntOp.andi x v reducesTo_S240_S_d0 h_S_) main_v4 main_c_2
  let main_v6 : IVec S_ 1 := andi main_v2 main_v5
  let main_c_3 : IVec S_ 32 := constantI S_ 32 0#32
  let main_v7 : IVec S240 32 := broadcastInDim S240 ![] bcast_S_S240 main_c_3
  let main_v8 : IVec S240 1 := cmpi .sge main_arg6 main_v7
  let main_c_4 : IVec S_ 1 := constantI S_ 1 1#1
  let main_v9 : IVec S_ 1 := (fun x v => Host.reduce IntOp.andi x v reducesTo_S240_S_d0 h_S_) main_v8 main_c_4
  let main_v10 : IVec S_ 1 := andi main_v6 main_v9
  let main_c_5 : IVec S_ 32 := constantI S_ 32 32#32
  let main_v11 : IVec S240 32 := broadcastInDim S240 ![] bcast_S_S240 main_c_5
  let main_v12 : IVec S240 1 := cmpi .slt main_arg6 main_v11
  let main_c_6 : IVec S_ 1 := constantI S_ 1 1#1
  let main_v13 : IVec S_ 1 := (fun x v => Host.reduce IntOp.andi x v reducesTo_S240_S_d0 h_S_) main_v12 main_c_6
  let main_v14 : IVec S_ 1 := andi main_v10 main_v13
  main_v14
-- ==== Pre_placed.lean ====
abbrev S61440x1024 : Shape := ⟨2, ![61440, 1024]⟩
abbrev S1x32768 : Shape := ⟨2, ![1, 32768]⟩
abbrev S1024 : Shape := ⟨1, ![1024]⟩
abbrev S_ : Shape := ⟨0, ![]⟩

class Facts : Prop where
  bcast_S_S1x32768 : S_.BroadcastsInDim S1x32768 (![] : Fin 0 → Fin S1x32768.rank)
  reducesTo_S1x32768_S_d0_1 : S1x32768.ReducesTo [0, 1] S_
  h_S_ : 0 < S_.numel

variable [Facts]

def fn {F : FTy → Type} [FloatOps F] (main_arg0 : FVec F S61440x1024 .f32) (main_arg1 : IVec S1x32768 32) (main_arg2 : FVec F S1024 .f32) : IVec S_ 1 :=
  let main_c : IVec S_ 32 := constantI S_ 32 0#32
  let main_v0 : IVec S1x32768 32 := broadcastInDim S1x32768 ![] bcast_S_S1x32768 main_c
  let main_v1 : IVec S1x32768 1 := cmpi .sge main_arg1 main_v0
  let main_c_0 : IVec S_ 1 := constantI S_ 1 1#1
  let main_v2 : IVec S_ 1 := (fun x v => Host.reduce IntOp.andi x v reducesTo_S1x32768_S_d0_1 h_S_) main_v1 main_c_0
  let main_c_1 : IVec S_ 32 := constantI S_ 32 61440#32
  let main_v3 : IVec S1x32768 32 := broadcastInDim S1x32768 ![] bcast_S_S1x32768 main_c_1
  let main_v4 : IVec S1x32768 1 := cmpi .slt main_arg1 main_v3
  let main_c_2 : IVec S_ 1 := constantI S_ 1 1#1
  let main_v5 : IVec S_ 1 := (fun x v => Host.reduce IntOp.andi x v reducesTo_S1x32768_S_d0_1 h_S_) main_v4 main_c_2
  let main_v6 : IVec S_ 1 := andi main_v2 main_v5
  main_v6
-- ==== Pre_routed.lean ====
abbrev S61440x1152 : Shape := ⟨2, ![61440, 1152]⟩
abbrev S1x1024 : Shape := ⟨2, ![1, 1024]⟩
abbrev S32x1024x256 : Shape := ⟨3, ![32, 1024, 256]⟩
abbrev S32x256x1024 : Shape := ⟨3, ![32, 256, 1024]⟩
abbrev S240 : Shape := ⟨1, ![240]⟩
abbrev S1 : Shape := ⟨1, ![1]⟩
abbrev S61440x2 : Shape := ⟨2, ![61440, 2]⟩
abbrev S_ : Shape := ⟨0, ![]⟩

class Facts : Prop where
  slices_S61440x1152_S61440x2_0_1026 : S61440x1152.Slices ![0, 1026] S61440x2
  bcast_S_S240 : S_.BroadcastsInDim S240 (![] : Fin 0 → Fin S240.rank)
  reducesTo_S240_S_d0 : S240.ReducesTo [0] S_
  h_S_ : 0 < S_.numel
  bcast_S_S61440x2 : S_.BroadcastsInDim S61440x2 (![] : Fin 0 → Fin S61440x2.rank)
  reducesTo_S61440x2_S_d0_1 : S61440x2.ReducesTo [0, 1] S_

variable [Facts]

def fn_part1 {F : FTy → Type} [FloatOps F] (main_v0 : FVec F S61440x2 .f32) (main_v15 : IVec S_ 1) : IVec S_ 1 :=
  let main_cst : FVec F S_ .f32 := constant S_ .f32 0x00000000#32
  let main_v16 : FVec F S61440x2 .f32 := broadcastInDim S61440x2 ![] bcast_S_S61440x2 main_cst
  let main_v17 : IVec S61440x2 1 := cmpf .oge main_v0 main_v16
  let main_c_7 : IVec S_ 1 := constantI S_ 1 1#1
  let main_v18 : IVec S_ 1 := (fun x v => Host.reduce IntOp.andi x v reducesTo_S61440x2_S_d0_1 h_S_) main_v17 main_c_7
  let main_v19 : IVec S_ 1 := andi main_v15 main_v18
  let main_cst_8 : FVec F S_ .f32 := constant S_ .f32 0x7F800000#32
  let main_v20 : FVec F S61440x2 .f32 := broadcastInDim S61440x2 ![] bcast_S_S61440x2 main_cst_8
  let main_v21 : IVec S61440x2 1 := cmpf .olt main_v0 main_v20
  let main_c_9 : IVec S_ 1 := constantI S_ 1 1#1
  let main_v22 : IVec S_ 1 := (fun x v => Host.reduce IntOp.andi x v reducesTo_S61440x2_S_d0_1 h_S_) main_v21 main_c_9
  let main_v23 : IVec S_ 1 := andi main_v19 main_v22
  main_v23

def fn {F : FTy → Type} [FloatOps F] (main_arg0 : FVec F S61440x1152 .f32) (main_arg1 : FVec F S1x1024 .f32) (main_arg2 : FVec F S32x1024x256 .f32) (main_arg3 : FVec F S32x1024x256 .f32) (main_arg4 : FVec F S32x256x1024 .f32) (main_arg5 : IVec S240 32) (main_arg6 : IVec S240 32) (main_arg7 : IVec S1 32) : IVec S_ 1 :=
  let main_v0 : FVec F S61440x2 .f32 := (extractStridedSlice S61440x2 ![0, 1026] · slices_S61440x1152_S61440x2_0_1026) main_arg0
  let main_c : IVec S_ 32 := constantI S_ 32 0#32
  let main_v1 : IVec S240 32 := broadcastInDim S240 ![] bcast_S_S240 main_c
  let main_v2 : IVec S240 1 := cmpi .sge main_arg5 main_v1
  let main_c_0 : IVec S_ 1 := constantI S_ 1 1#1
  let main_v3 : IVec S_ 1 := (fun x v => Host.reduce IntOp.andi x v reducesTo_S240_S_d0 h_S_) main_v2 main_c_0
  let main_c_1 : IVec S_ 32 := constantI S_ 32 32#32
  let main_v4 : IVec S240 32 := broadcastInDim S240 ![] bcast_S_S240 main_c_1
  let main_v5 : IVec S240 1 := cmpi .slt main_arg5 main_v4
  let main_c_2 : IVec S_ 1 := constantI S_ 1 1#1
  let main_v6 : IVec S_ 1 := (fun x v => Host.reduce IntOp.andi x v reducesTo_S240_S_d0 h_S_) main_v5 main_c_2
  let main_v7 : IVec S_ 1 := andi main_v3 main_v6
  let main_c_3 : IVec S_ 32 := constantI S_ 32 0#32
  let main_v8 : IVec S240 32 := broadcastInDim S240 ![] bcast_S_S240 main_c_3
  let main_v9 : IVec S240 1 := cmpi .sge main_arg6 main_v8
  let main_c_4 : IVec S_ 1 := constantI S_ 1 1#1
  let main_v10 : IVec S_ 1 := (fun x v => Host.reduce IntOp.andi x v reducesTo_S240_S_d0 h_S_) main_v9 main_c_4
  let main_v11 : IVec S_ 1 := andi main_v7 main_v10
  let main_c_5 : IVec S_ 32 := constantI S_ 32 32#32
  let main_v12 : IVec S240 32 := broadcastInDim S240 ![] bcast_S_S240 main_c_5
  let main_v13 : IVec S240 1 := cmpi .slt main_arg6 main_v12
  let main_c_6 : IVec S_ 1 := constantI S_ 1 1#1
  let main_v14 : IVec S_ 1 := (fun x v => Host.reduce IntOp.andi x v reducesTo_S240_S_d0 h_S_) main_v13 main_c_6
  let main_v15 : IVec S_ 1 := andi main_v11 main_v14
  fn_part1 (F := F) main_v0 main_v15
-- ==== Kernel.lean ====
abbrev S61440x1152 : Shape := ⟨2, ![61440, 1152]⟩
abbrev S1x1024 : Shape := ⟨2, ![1, 1024]⟩
abbrev S32x1024x256 : Shape := ⟨3, ![32, 1024, 256]⟩
abbrev S32x256x1024 : Shape := ⟨3, ![32, 256, 1024]⟩
abbrev S240 : Shape := ⟨1, ![240]⟩
abbrev S1 : Shape := ⟨1, ![1]⟩
abbrev S_ : Shape := ⟨0, ![]⟩
abbrev S239 : Shape := ⟨1, ![239]⟩
abbrev S61440x1024 : Shape := ⟨2, ![61440, 1024]⟩
abbrev S256x1152 : Shape := ⟨2, ![256, 1152]⟩
abbrev S1x1024x256 : Shape := ⟨3, ![1, 1024, 256]⟩
abbrev S1x256x1024 : Shape := ⟨3, ![1, 256, 1024]⟩
abbrev S256x1024 : Shape := ⟨2, ![256, 1024]⟩
abbrev S1024x256 : Shape := ⟨2, ![1024, 256]⟩
abbrev S256x1 : Shape := ⟨2, ![256, 1]⟩
abbrev S256 : Shape := ⟨1, ![256]⟩
abbrev S256x256 : Shape := ⟨2, ![256, 256]⟩

abbrev nBuf : Space → Nat
  | .hbm => 27
  | .vmem => 23
  | .smem => 5
  | _ => 0

abbrev bufTy : (tb : Table) → Fin (tcTables nBuf tb) → BufTy
  | .hbm, ⟨0, _⟩ => ⟨S61440x1152, .f32⟩
  | .hbm, ⟨1, _⟩ => ⟨S1x1024, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S240, .i32⟩
  | .hbm, ⟨6, _⟩ => ⟨S240, .i32⟩
  | .hbm, ⟨7, _⟩ => ⟨S240, .i1⟩
  | .hbm, ⟨8, _⟩ => ⟨S_, .i32⟩
  | .hbm, ⟨9, _⟩ => ⟨S240, .i32⟩
  | .hbm, ⟨10, _⟩ => ⟨S240, .i1⟩
  | .hbm, ⟨11, _⟩ => ⟨S1, .i32⟩
  | .hbm, ⟨12, _⟩ => ⟨S239, .i32⟩
  | .hbm, ⟨13, _⟩ => ⟨S240, .i32⟩
  | .hbm, ⟨14, _⟩ => ⟨S240, .i1⟩
  | .hbm, ⟨15, _⟩ => ⟨S240, .i1⟩
  | .hbm, ⟨16, _⟩ => ⟨S240, .i1⟩
  | .hbm, ⟨17, _⟩ => ⟨S_, .i32⟩
  | .hbm, ⟨18, _⟩ => ⟨S240, .i32⟩
  | .hbm, ⟨19, _⟩ => ⟨S240, .i1⟩
  | .hbm, ⟨20, _⟩ => ⟨S1, .i32⟩
  | .hbm, ⟨21, _⟩ => ⟨S239, .i32⟩
  | .hbm, ⟨22, _⟩ => ⟨S240, .i32⟩
  | .hbm, ⟨23, _⟩ => ⟨S240, .i1⟩
  | .hbm, ⟨24, _⟩ => ⟨S240, .i1⟩
  | .hbm, ⟨25, _⟩ => ⟨S240, .i1⟩
  | .hbm, ⟨26, _⟩ => ⟨S61440x1024, .f32⟩
  | .local _ .vmem, ⟨0, _⟩ => ⟨S256x1152, .f32⟩
  | .local _ .vmem, ⟨1, _⟩ => ⟨S256x1152, .f32⟩
  | .local _ .vmem, ⟨2, _⟩ => ⟨S1x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x256x1024, .f32⟩
  | .local _ .vmem, ⟨8, _⟩ => ⟨S1x256x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x256x1024, .f32⟩
  | .local _ .vmem, ⟨14, _⟩ => ⟨S1x256x1024, .f32⟩
  | .local _ .vmem, ⟨15, _⟩ => ⟨S256x1024, .f32⟩
  | .local _ .vmem, ⟨16, _⟩ => ⟨S256x1024, .f32⟩
  | .local _ .vmem, ⟨17, _⟩ => ⟨S1024x256, .bf16⟩
  | .local _ .vmem, ⟨18, _⟩ => ⟨S1024x256, .bf16⟩
  | .local _ .vmem, ⟨19, _⟩ => ⟨S256x1024, .bf16⟩
  | .local _ .vmem, ⟨20, _⟩ => ⟨S1024x256, .bf16⟩
  | .local _ .vmem, ⟨21, _⟩ => ⟨S1024x256, .bf16⟩
  | .local _ .vmem, ⟨22, _⟩ => ⟨S256x1024, .bf16⟩
  | .local _ .smem, ⟨0, _⟩ => ⟨S240, .i32⟩
  | .local _ .smem, ⟨1, _⟩ => ⟨S240, .i32⟩
  | .local _ .smem, ⟨2, _⟩ => ⟨S240, .i32⟩
  | .local _ .smem, ⟨3, _⟩ => ⟨S240, .i32⟩
  | .local _ .smem, ⟨4, _⟩ => ⟨S1, .i32⟩
  | _, _ => ⟨S61440x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v17 : Ref sig .tc := ⟨.hbm, 26, rfl⟩
abbrev main_arg5 : Ref sig .tc := ⟨.smem, 0, rfl⟩
abbrev main_arg6 : Ref sig .tc := ⟨.smem, 1, rfl⟩
abbrev main_v9 : Ref sig .tc := ⟨.smem, 2, rfl⟩
abbrev main_v16 : Ref sig .tc := ⟨.smem, 3, rfl⟩
abbrev main_arg7 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![240], ![false]⟩

abbrev pre0 : Pipeline.Prefetch sig := ⟨5, ![main_arg5.idx, main_arg6.idx, main_v9.idx, main_v16.idx, main_arg7.idx], fun | 0 => main_arg5.names | 1 => main_arg6.names | 2 => main_v9.names | 3 => main_v16.names | 4 => main_arg7.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond3 (i : grid0.Coords) (v10 : BitVec 32) : BitVec 1 :=
  let arg0 : BitVec 32 := BitVec.ofNat 32 (i 0).val
  let v11 : BitVec 1 := Scalar.cmpi .slt arg0 v10
  let v12 : BitVec 32 := Scalar.extui v11
  let c0_i32_2 : BitVec 32 := 0#32
  let v13 : BitVec 1 := Scalar.cmpi .ne v12 c0_i32_2
  v13

def k0_cond4 (i : grid0.Coords) (v14 : BitVec 32) : BitVec 1 :=
  let arg0 : BitVec 32 := BitVec.ofNat 32 (i 0).val
  let v15 : BitVec 1 := Scalar.cmpi .sge arg0 v14
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S61440x1152 : Shape := ⟨2, ![61440, 1152]⟩
abbrev S1x1024 : Shape := ⟨2, ![1, 1024]⟩
abbrev S32x1024x256 : Shape := ⟨3, ![32, 1024, 256]⟩
abbrev S32x256x1024 : Shape := ⟨3, ![32, 256, 1024]⟩
abbrev S240 : Shape := ⟨1, ![240]⟩
abbrev S1 : Shape := ⟨1, ![1]⟩
abbrev S61440x1024 : Shape := ⟨2, ![61440, 1024]⟩
abbrev S61440x2 : Shape := ⟨2, ![61440, 2]⟩
abbrev S240x1 : Shape := ⟨2, ![240, 1]⟩
abbrev S240x256 : Shape := ⟨2, ![240, 256]⟩
abbrev S61440 : Shape := ⟨1, ![61440]⟩
abbrev S61440x1 : Shape := ⟨2, ![61440, 1]⟩
abbrev S_ : Shape := ⟨0, ![]⟩
abbrev S4x8x1024x256 : Shape := ⟨4, ![4, 8, 1024, 256]⟩
abbrev S4x8x256x1024 : Shape := ⟨4, ![4, 8, 256, 1024]⟩
abbrev S61440x2x1 : Shape := ⟨3, ![61440, 2, 1]⟩
abbrev S1x1x32 : Shape := ⟨3, ![1, 1, 32]⟩
abbrev S61440x2x32 : Shape := ⟨3, ![61440, 2, 32]⟩
abbrev S61440x32 : Shape := ⟨2, ![61440, 32]⟩
abbrev S61440x4x8 : Shape := ⟨3, ![61440, 4, 8]⟩
abbrev S1x8x1024x256 : Shape := ⟨4, ![1, 8, 1024, 256]⟩
abbrev S8x1024x256 : Shape := ⟨3, ![8, 1024, 256]⟩
abbrev S61440x8x256 : Shape := ⟨3, ![61440, 8, 256]⟩
abbrev S61440x1x8 : Shape := ⟨3, ![61440, 1, 8]⟩
abbrev S61440x8 : Shape := ⟨2, ![61440, 8]⟩
abbrev S61440x8x1 : Shape := ⟨3, ![61440, 8, 1]⟩
abbrev S1x8x256x1024 : Shape := ⟨4, ![1, 8, 256, 1024]⟩
abbrev S8x256x1024 : Shape := ⟨3, ![8, 256, 1024]⟩

abbrev nBuf : Space → Nat
  | .hbm => 160
  | .vmem => 0
  | .smem => 0
  | _ => 0

abbrev hbmTy0_0 (i : Nat) : BufTy := match i % 128 with
  | 0 => ⟨S61440x1152, .f32⟩
  | 1 => ⟨S1x1024, .f32⟩
  | 2 => ⟨S32x1024x256, .f32⟩
  | 3 => ⟨S32x1024x256, .f32⟩
  | 4 => ⟨S32x256x1024, .f32⟩
  | 5 => ⟨S240, .i32⟩
  | 6 => ⟨S240, .i32⟩
  | 7 => ⟨S1, .i32⟩
  | 8 => ⟨S61440x1024, .f32⟩
  | 9 => ⟨S61440x2, .f32⟩
  | 10 => ⟨S240x1, .i32⟩
  | 11 => ⟨S240x256, .i32⟩
  | 12 => ⟨S61440, .i32⟩
  | 13 => ⟨S240x1, .i32⟩
  | 14 => ⟨S240x256, .i32⟩
  | 15 => ⟨S61440, .i32⟩
  | 16 => ⟨S61440x1, .i32⟩
  | 17 => ⟨S61440x1, .i32⟩
  | 18 => ⟨S61440x2, .i32⟩
  | 19 => ⟨S61440x1024, .f32⟩
  | 20 => ⟨S_, .f32⟩
  | 21 => ⟨S61440, .f32⟩
  | 22 => ⟨S61440x1, .f32⟩
  | 23 => ⟨S_, .f32⟩
  | 24 => ⟨S61440x1, .f32⟩
  | 25 => ⟨S61440x1, .f32⟩
  | 26 => ⟨S_, .f32⟩
  | 27 => ⟨S61440x1, .f32⟩
  | 28 => ⟨S61440x1, .f32⟩
  | 29 => ⟨S61440x1, .f32⟩
  | 30 => ⟨S61440x1024, .f32⟩
  | 31 => ⟨S61440x1024, .f32⟩
  | 32 => ⟨S61440x1024, .f32⟩
  | 33 => ⟨S61440x1024, .f32⟩
  | 34 => ⟨S4x8x1024x256, .f32⟩
  | 35 => ⟨S4x8x1024x256, .f32⟩
  | 36 => ⟨S4x8x256x1024, .f32⟩
  | 37 => ⟨S61440x2x1, .i32⟩
  | 38 => ⟨S1x1x32, .i32⟩
  | 39 => ⟨S61440x2x32, .i32⟩
  | 40 => ⟨S61440x2x32, .i32⟩
  | 41 => ⟨S61440x2x32, .i1⟩
  | 42 => ⟨S61440x2x32, .f32⟩
  | 43 => ⟨S61440x32, .f32⟩
  | 44 => ⟨S61440x4x8, .f32⟩
  | 45 => ⟨S_, .f32⟩
  | 46 => ⟨S61440x1024, .f32⟩
  | 47 => ⟨S1x8x1024x256, .f32⟩
  | 48 => ⟨S8x1024x256, .f32⟩
  | 49 => ⟨S61440x8x256, .f32⟩
  | 50 => ⟨S1x8x1024x256, .f32⟩
  | 51 => ⟨S8x1024x256, .f32⟩
  | 52 => ⟨S61440x8x256, .f32⟩
  | 53 => ⟨S61440x8x256, .f32⟩
  | 54 => ⟨S61440x8x256, .f32⟩
  | 55 => ⟨S_, .f32⟩
  | 56 => ⟨S61440x8x256, .f32⟩
  | 57 => ⟨S61440x8x256, .f32⟩
  | 58 => ⟨S_, .f32⟩
  | 59 => ⟨S61440x8x256, .f32⟩
  | 60 => ⟨S61440x8x256, .f32⟩
  | 61 => ⟨S61440x8x256, .f32⟩
  | 62 => ⟨S61440x8x256, .f32⟩
  | 63 => ⟨S61440x1x8, .f32⟩
  | 64 => ⟨S61440x8, .f32⟩
  | 65 => ⟨S61440x8x1, .f32⟩
  | 66 => ⟨S61440x8x256, .f32⟩
  | 67 => ⟨S61440x8x256, .f32⟩
  | 68 => ⟨S1x8x256x1024, .f32⟩
  | 69 => ⟨S8x256x1024, .f32⟩
  | 70 => ⟨S61440x1024, .f32⟩
  | 71 => ⟨S61440x1024, .f32⟩
  | 72 => ⟨S1x8x1024x256, .f32⟩
  | 73 => ⟨S8x1024x256, .f32⟩
  | 74 => ⟨S61440x8x256, .f32⟩
  | 75 => ⟨S1x8x1024x256, .f32⟩
  | 76 => ⟨S8x1024x256, .f32⟩
  | 77 => ⟨S61440x8x256, .f32⟩
  | 78 => ⟨S61440x8x256, .f32⟩
  | 79 => ⟨S61440x8x256, .f32⟩
  | 80 => ⟨S_, .f32⟩
  | 81 => ⟨S61440x8x256, .f32⟩
  | 82 => ⟨S61440x8x256, .f32⟩
  | 83 => ⟨S_, .f32⟩
  | 84 => ⟨S61440x8x256, .f32⟩
  | 85 => ⟨S61440x8x256, .f32⟩
  | 86 => ⟨S61440x8x256, .f32⟩
  | 87 => ⟨S61440x8x256, .f32⟩
  | 88 => ⟨S61440x1x8, .f32⟩
  | 89 => ⟨S61440x8, .f32⟩
  | 90 => ⟨S61440x8x1, .f32⟩
  | 91 => ⟨S61440x8x256, .f32⟩
  | 92 => ⟨S61440x8x256, .f32⟩
  | 93 => ⟨S1x8x256x1024, .f32⟩
  | 94 => ⟨S8x256x1024, .f32⟩
  | 95 => ⟨S61440x1024, .f32⟩
  | 96 => ⟨S61440x1024, .f32⟩
  | 97 => ⟨S1x8x1024x256, .f32⟩
  | 98 => ⟨S8x1024x256, .f32⟩
  | 99 => ⟨S61440x8x256, .f32⟩
  | 100 => ⟨S1x8x1024x256, .f32⟩
  | 101 => ⟨S8x1024x256, .f32⟩
  | 102 => ⟨S61440x8x256, .f32⟩
  | 103 => ⟨S61440x8x256, .f32⟩
  | 104 => ⟨S61440x8x256, .f32⟩
  | 105 => ⟨S_, .f32⟩
  | 106 => ⟨S61440x8x256, .f32⟩
  | 107 => ⟨S61440x8x256, .f32⟩
  | 108 => ⟨S_, .f32⟩
  | 109 => ⟨S61440x8x256, .f32⟩
  | 110 => ⟨S61440x8x256, .f32⟩
  | 111 => ⟨S61440x8x256, .f32⟩
  | 112 => ⟨S61440x8x256, .f32⟩
  | 113 => ⟨S61440x1x8, .f32⟩
  | 114 => ⟨S61440x8, .f32⟩
  | 115 => ⟨S61440x8x1, .f32⟩
  | 116 => ⟨S61440x8x256, .f32⟩
  | 117 => ⟨S61440x8x256, .f32⟩
  | 118 => ⟨S1x8x256x1024, .f32⟩
  | 119 => ⟨S8x256x1024, .f32⟩
  | 120 => ⟨S61440x1024, .f32⟩
  | 121 => ⟨S61440x1024, .f32⟩
  | 122 => ⟨S1x8x1024x256, .f32⟩
  | 123 => ⟨S8x1024x256, .f32⟩
  | 124 => ⟨S61440x8x256, .f32⟩
  | 125 => ⟨S1x8x1024x256, .f32⟩
  | 126 => ⟨S8x1024x256, .f32⟩
  | 127 => ⟨S61440x8x256, .f32⟩
  | _ => ⟨S61440x1152, .f32⟩

abbrev hbmTy0_1 (i : Nat) : BufTy := match i % 128 with
  | 0 => ⟨S61440x8x256, .f32⟩
  | 1 => ⟨S61440x8x256, .f32⟩
  | 2 => ⟨S_, .f32⟩
  | 3 => ⟨S61440x8x256, .f32⟩
  | 4 => ⟨S61440x8x256, .f32⟩
  | 5 => ⟨S_, .f32⟩
  | 6 => ⟨S61440x8x256, .f32⟩
  | 7 => ⟨S61440x8x256, .f32⟩
  | 8 => ⟨S61440x8x256, .f32⟩
  | 9 => ⟨S61440x8x256, .f32⟩
  | 10 => ⟨S61440x1x8, .f32⟩
  | 11 => ⟨S61440x8, .f32⟩
  | 12 => ⟨S61440x8x1, .f32⟩
  | 13 => ⟨S61440x8x256, .f32⟩
  | 14 => ⟨S61440x8x256, .f32⟩
  | 15 => ⟨S1x8x256x1024, .f32⟩
  | 16 => ⟨S8x256x1024, .f32⟩
  | 17 => ⟨S61440x1024, .f32⟩
  | 18 => ⟨S61440x1024, .f32⟩
  | 19 => ⟨S61440x1024, .f32⟩
  | 20 => ⟨S240, .i32⟩
  | 21 => ⟨S240, .i32⟩
  | 22 => ⟨S240, .i1⟩
  | 23 => ⟨S240x1, .i1⟩
  | 24 => ⟨S240x256, .i1⟩
  | 25 => ⟨S61440, .i1⟩
  | 26 => ⟨S61440x1, .i1⟩
  | 27 => ⟨S_, .f32⟩
  | 28 => ⟨S_, .f32⟩
  | 29 => ⟨S61440x1024, .i1⟩
  | 30 => ⟨S61440x1024, .f32⟩
  | 31 => ⟨S61440x1024, .f32⟩
  | _ => ⟨S61440x1152, .f32⟩

abbrev hbmTy (i : Nat) : BufTy := match i / 128 with
  | 0 => hbmTy0_0 i
  | 1 => hbmTy0_1 i
  | _ => ⟨S61440x1152, .f32⟩

abbrev bufTy : (tb : Table) → Fin (tcTables nBuf tb) → BufTy
  | .hbm, ⟨i, _⟩ => hbmTy i
  | _, _ => ⟨S61440x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_3 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_v106 : Ref sig .tc := ⟨.hbm, 159, rfl⟩

abbrev nD : Nat := 1
abbrev τ : Topo := Topo.v7x

variable {F : FTy → Type} [FloatOps F]
-- ==== Outproj.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixedIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S1024x1024, .f32⟩
  | .hbm, ⟨5, _⟩ => ⟨S32768x256, .f32⟩
  | .hbm, ⟨6, _⟩ => ⟨S32768x256, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Fetch.lean ====
abbrev S61440x1024 : Shape := ⟨2, ![61440, 1024]⟩
abbrev S1x32768 : Shape := ⟨2, ![1, 32768]⟩
abbrev S1024 : Shape := ⟨1, ![1024]⟩
abbrev S1x1024 : Shape := ⟨2, ![1, 1024]⟩
abbrev S32768x1024 : Shape := ⟨2, ![32768, 1024]⟩
abbrev S1x512 : Shape := ⟨2, ![1, 512]⟩
abbrev S512x1024 : Shape := ⟨2, ![512, 1024]⟩
abbrev S2x512x1024 : Shape := ⟨3, ![2, 512, 1024]⟩
abbrev S2 : Shape := ⟨1, ![2]⟩
abbrev S1x1 : Shape := ⟨2, ![1, 1]⟩
abbrev S1 : Shape := ⟨1, ![1]⟩
abbrev S_ : Shape := ⟨0, ![]⟩
abbrev S1x1x1024 : Shape := ⟨3, ![1, 1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 5
  | .vmem => 4
  | .smem => 4
  | _ => 0

abbrev bufTy : (tb : Table) → Fin (tcTables nBuf tb) → BufTy
  | .hbm, ⟨0, _⟩ => ⟨S61440x1024, .f32⟩
  | .hbm, ⟨1, _⟩ => ⟨S1x32768, .i32⟩
  | .hbm, ⟨2, _⟩ => ⟨S1024, .f32⟩
  | .hbm, ⟨3, _⟩ => ⟨S1x1024, .f32⟩
  | .hbm, ⟨4, _⟩ => ⟨S32768x1024, .f32⟩
  | .local _ .vmem, ⟨0, _⟩ => ⟨S1x1024, .f32⟩
  | .local _ .vmem, ⟨1, _⟩ => ⟨S512x1024, .f32⟩
  | .local _ .vmem, ⟨2, _⟩ => ⟨S512x1024, .f32⟩
  | .local _ .vmem, ⟨3, _⟩ => ⟨S2x512x1024, .f32⟩
  | .local _ .smem, ⟨0, _⟩ => ⟨S1x512, .i32⟩
  | .local _ .smem, ⟨1, _⟩ => ⟨S1x512, .i32⟩
  | .local _ .smem, ⟨2, _⟩ => ⟨S1x512, .i32⟩
  | .local _ .smem, ⟨3, _⟩ => ⟨S1x512, .i32⟩
  | _, _ => ⟨S61440x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_scratch0 : Ref sig .tc := ⟨.vmem, 3, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_16 : BitVec 32 := 0#32
  let c256_i32 : BitVec 32 := 256#32
  let v36 : BitVec 32 := Scalar.addi c0_i32_16 c256_i32
  let c1_i32_17 : BitVec 32 := 1#32
  ⟨c0_i32_16, v36, c1_i32_17⟩
def k0_off1 (k0_t1 : Fin k0_t1_loop.trips) : Fin 2 → Nat :=
  let c0_21 : Index := 0#32
  let c2_i32_19 : BitVec 32 := 2#32
  let c0_i32_16 : BitVec 32 := 0#32
  let c1_i32_17 : BitVec 32 := 1#32
  let arg8 : BitVec 32 := Scf.iv c0_i32_16 c1_i32_17 k0_t1
  let v37 : BitVec 32 := Scalar.muli c2_i32_19 arg8
  let c0_i32_20 : BitVec 32 := 0#32
  let v38 : BitVec 32 := Scalar.addi v37 c0_i32_20
  let v39 : Index := Scalar.indexCast v38
  ![0, v39.toNat]
def k0_off2 (k0_t1 : Fin k0_t1_loop.trips) : Fin 3 → Nat :=
  let c0_i32_22 : BitVec 32 := 0#32
  let c2_i32_19 : BitVec 32 := 2#32
  let c0_i32_16 : BitVec 32 := 0#32
  let c1_i32_17 : BitVec 32 := 1#32
  let arg8 : BitVec 32 := Scf.iv c0_i32_16 c1_i32_17 k0_t1
  let v37 : BitVec 32 := Scalar.muli c2_i32_19 arg8
  let c0_i32_20 : BitVec 32 := 0#32
  let v38 : BitVec 32 := Scalar.addi v37 c0_i32_20
  let c0_i32_24 : BitVec 32 := 0#32
  ![0, v38.toNat, 0]
def k0_off3 (v40 : BitVec 32) : Fin 2 → Nat :=
  let c0_i32_25 : BitVec 32 := 0#32
  ![v40.toNat, 0]

def k0_chk1 (i : grid0.Coords) (v40 : BitVec 32) : Prop :=
  (∀ (k0_h1 : k0_cond1 i = 1#1), ∀ a, (k0_off3 v40) a + S1x1024.size a ≤ S61440x1024.size a)
theorem k0_off3_inb : ∀ (i : grid0.Coords) (v40 : BitVec 32) (k0_hw1 : k0_chk1 i v40), ∀ (k0_h1 : k0_cond1 i = 1#1), ∀ a, (k0_off3 v40) a + S1x1024.size a ≤ S61440x1024.size a := fun i v40 k0_hw1 k0_h1 => k0_hw1 k0_h1

def k0_off4 (k0_t1 : Fin k0_t1_loop.trips) : Fin 2 → Nat :=
  let c0_28 : Index := 0#32
  let c2_i32_26 : BitVec 32 := 2#32
  let c0_i32_16 : BitVec 32 := 0#32
  let c1_i32_17 : BitVec 32 := 1#32
  let arg8 : BitVec 32 := Scf.iv c0_i32_16 c1_i32_17 k0_t1
  let v46 : BitVec 32 := Scalar.muli c2_i32_26 arg8
  let c1_i32_27 : BitVec 32 := 1#32
  let v47 : BitVec 32 := Scalar.addi v46 c1_i32_27
  let v48 : Index := Scalar.indexCast v47
  ![0, v48.toNat]
def k0_off5 (k0_t1 : Fin k0_t1_loop.trips) : Fin 3 → Nat :=
  let c0_i32_29 : BitVec 32 := 0#32
  let c2_i32_26 : BitVec 32 := 2#32
  let c0_i32_16 : BitVec 32 := 0#32
  let c1_i32_17 : BitVec 32 := 1#32
  let arg8 : BitVec 32 := Scf.iv c0_i32_16 c1_i32_17 k0_t1
  let v46 : BitVec 32 := Scalar.muli c2_i32_26 arg8
  let c1_i32_27 : BitVec 32 := 1#32
  let v47 : BitVec 32 := Scalar.addi v46 c1_i32_27
  let c0_i32_31 : BitVec 32 := 0#32
  ![0, v47.toNat, 0]
def k0_off6 (v49 : BitVec 32) : Fin 2 → Nat :=
  let c0_i32_32 : BitVec 32 := 0#32
  ![v49.toNat, 0]

def k0_chk2 (i : grid0.Coords) (v49 : BitVec 32) : Prop :=
  (∀ (k0_h1 : k0_cond1 i = 1#1), ∀ a, (k0_off6 v49) a + S1x1024.size a ≤ S61440x1024.size a)
theorem k0_off6_inb : ∀ (i : grid0.Coords) (v49 : BitVec 32) (k0_hw2 : k0_chk2 i v49), ∀ (k0_h1 : k0_cond1 i = 1#1), ∀ a, (k0_off6 v49) a + S1x1024.size a ≤ S61440x1024.size a := fun i v49 k0_hw2 k0_h1 => k0_hw2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_17 : BitVec 32 := 0#32
  let c256_i32 : BitVec 32 := 256#32
  let v37 : BitVec 32 := Scalar.addi c0_i32_17 c256_i32
  let c1_i32_18 : BitVec 32 := 1#32
  ⟨c0_i32_17, v37, c1_i32_18⟩
def k0_off7 (k0_t2 : Fin k0_t2_loop.trips) : Fin 2 → Nat :=
  let c0_22 : Index := 0#32
  let c2_i32_20 : BitVec 32 := 2#32
  let c0_i32_17 : BitVec 32 := 0#32
  let c1_i32_18 : BitVec 32 := 1#32
  let arg8 : BitVec 32 := Scf.iv c0_i32_17 c1_i32_18 k0_t2
  let v38 : BitVec 32 := Scalar.muli c2_i32_20 arg8
  let c0_i32_21 : BitVec 32 := 0#32
  let v39 : BitVec 32 := Scalar.addi v38 c0_i32_21
  let v40 : Index := Scalar.indexCast v39
  ![0, v40.toNat]
def k0_off8 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_16 v9
  ![v36.toNat]
def k0_off9 (i : grid0.Coords) (k0_t2 : Fin k0_t2_loop.trips) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_16 v9
  let c2_i32_20 : BitVec 32 := 2#32
  let c0_i32_17 : BitVec 32 := 0#32
  let c1_i32_18 : BitVec 32 := 1#32
  let arg8 : BitVec 32 := Scf.iv c0_i32_17 c1_i32_18 k0_t2
  let v38 : BitVec 32 := Scalar.muli c2_i32_20 arg8
  let c0_i32_21 : BitVec 32 := 0#32
  let v39 : BitVec 32 := Scalar.addi v38 c0_i32_21
  let c0_i32_23 : BitVec 32 := 0#32
  ![v36.toNat, v39.toNat, 0]
def k0_off10 (v41 : BitVec 32) : Fin 2 → Nat :=
  let c0_i32_24 : BitVec 32 := 0#32
  ![v41.toNat, 0]

def k0_chk3 (i : grid0.Coords) (v41 : BitVec 32) : Prop :=
  (∀ (k0_h2 : k0_cond2 i = 1#1), ∀ a, (k0_off10 v41) a + S1x1024.size a ≤ S61440x1024.size a)
theorem k0_off10_inb : ∀ (i : grid0.Coords) (v41 : BitVec 32) (k0_hw3 : k0_chk3 i v41), ∀ (k0_h2 : k0_cond2 i = 1#1), ∀ a, (k0_off10 v41) a + S1x1024.size a ≤ S61440x1024.size a := fun i v41 k0_hw3 k0_h2 => k0_hw3 k0_h2

def k0_off11 (k0_t2 : Fin k0_t2_loop.trips) : Fin 2 → Nat :=
  let c0_27 : Index := 0#32
  let c2_i32_25 : BitVec 32 := 2#32
  let c0_i32_17 : BitVec 32 := 0#32
  let c1_i32_18 : BitVec 32 := 1#32
  let arg8 : BitVec 32 := Scf.iv c0_i32_17 c1_i32_18 k0_t2
  let v47 : BitVec 32 := Scalar.muli c2_i32_25 arg8
  let c1_i32_26 : BitVec 32 := 1#32
  let v48 : BitVec 32 := Scalar.addi v47 c1_i32_26
  let v49 : Index := Scalar.indexCast v48
  ![0, v49.toNat]
def k0_off12 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_16 v9
  ![v36.toNat]
def k0_off13 (i : grid0.Coords) (k0_t2 : Fin k0_t2_loop.trips) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_16 v9
  let c2_i32_25 : BitVec 32 := 2#32
  let c0_i32_17 : BitVec 32 := 0#32
  let c1_i32_18 : BitVec 32 := 1#32
  let arg8 : BitVec 32 := Scf.iv c0_i32_17 c1_i32_18 k0_t2
  let v47 : BitVec 32 := Scalar.muli c2_i32_25 arg8
  let c1_i32_26 : BitVec 32 := 1#32
  let v48 : BitVec 32 := Scalar.addi v47 c1_i32_26
  let c0_i32_28 : BitVec 32 := 0#32
  ![v36.toNat, v48.toNat, 0]
def k0_off14 (v50 : BitVec 32) : Fin 2 → Nat :=
  let c0_i32_29 : BitVec 32 := 0#32
  ![v50.toNat, 0]

def k0_chk4 (i : grid0.Coords) (v50 : BitVec 32) : Prop :=
  (∀ (k0_h2 : k0_cond2 i = 1#1), ∀ a, (k0_off14 v50) a + S1x1024.size a ≤ S61440x1024.size a)
theorem k0_off14_inb : ∀ (i : grid0.Coords) (v50 : BitVec 32) (k0_hw4 : k0_chk4 i v50), ∀ (k0_h2 : k0_cond2 i = 1#1), ∀ a, (k0_off14 v50) a + S1x1024.size a ≤ S61440x1024.size a := fun i v50 k0_hw4 k0_h2 => k0_hw4 k0_h2

@[reducible] def k0_t3_loop : Scf.Loop 32 :=
  let c0_i32_7 : BitVec 32 := 0#32
  let c512_i32 : BitVec 32 := 512#32
  let v17 : BitVec 32 := Scalar.addi c0_i32_7 c512_i32
  let c1_i32_8 : BitVec 32 := 1#32
  ⟨c0_i32_7, v17, c1_i32_8⟩
def k0_off15 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_16 : BitVec 32 := 0#32
  let c0_i32_17 : BitVec 32 := 0#32
  ![v9.toNat, 0, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_9 : Index := 0#32
  ![v18.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormedIdeal.lean ====
abbrev S61440x1024 : Shape := ⟨2, ![61440, 1024]⟩
abbrev S1x32768 : Shape := ⟨2, ![1, 32768]⟩
abbrev S1024 : Shape := ⟨1, ![1024]⟩
abbrev S32768 : Shape := ⟨1, ![32768]⟩
abbrev S32768x1 : Shape := ⟨2, ![32768, 1]⟩
abbrev S32768x1024 : Shape := ⟨2, ![32768, 1024]⟩
abbrev S_ : Shape := ⟨0, ![]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S61440x1024, .f32⟩
  | .hbm, ⟨1, _⟩ => ⟨S1x32768, .i32⟩
  | .hbm, ⟨2, _⟩ => ⟨S1024, .f32⟩
  | .hbm, ⟨3, _⟩ => ⟨S32768, .i32⟩
  | .hbm, ⟨4, _⟩ => ⟨S32768x1, .i32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | _, _ => ⟨S61440x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Setup.lean ====
/- The launch of the expert call: what the region finds in its buffers, the prefetched tables, the windows' blocks, and
   the memrefs the body is called with. Everything is over any values `F`, so that one run serves both programs. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Kit
public import Idealize.ShloMosaic.Lib.Tactic
public import Idealize.ShloMosaic.Lib.WordCmp

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The host operations before the region, in order. -/
abbrev hostLines : List (List (HloOp τ sig (Elt F))) := [hostOps0, hostOps0_1, hostOps0_2, hostOps0_3, hostOps0_4]

/-- The buffers of core `c` when the region is entered. -/
abbrev V (c : Dev nD) (b : Ref sig .tc) : Buf (Elt F) ((c : Thread nD τ).loc b) :=
  StableHlo.after (List.flatten (hostLines (F := F))) (fun b => m (c, b)) b

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor

set_option maxHeartbeats 800000 in
/-- `main` runs its host lines and then the region. -/
theorem main_enters (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-- A buffer that no host operation writes is found as launched. -/
theorem V_of_unwritten (c : Dev nD) (b : Ref sig .tc)
    (h : (List.flatten (hostLines (F := F))).Forall fun op => Proc.devRef .tc b ∉ op.writes) :
    V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) :=
  V_of_unwritten m c main_arg0 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg1 (c : Dev nD) : V m c main_arg1 = m ((c : Thread nD τ).loc main_arg1) :=
  V_of_unwritten m c main_arg1 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg2 (c : Dev nD) : V m c main_arg2 = m ((c : Thread nD τ).loc main_arg2) :=
  V_of_unwritten m c main_arg2 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg3 (c : Dev nD) : V m c main_arg3 = m ((c : Thread nD τ).loc main_arg3) :=
  V_of_unwritten m c main_arg3 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg4 (c : Dev nD) : V m c main_arg4 = m ((c : Thread nD τ).loc main_arg4) :=
  V_of_unwritten m c main_arg4 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg5 (c : Dev nD) : V m c main_arg5 = m ((c : Thread nD τ).loc main_arg5) :=
  V_of_unwritten m c main_arg5 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg6 (c : Dev nD) : V m c main_arg6 = m ((c : Thread nD τ).loc main_arg6) :=
  V_of_unwritten m c main_arg6 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))
theorem V_arg7 (c : Dev nD) : V m c main_arg7 = m ((c : Thread nD τ).loc main_arg7) :=
  V_of_unwritten m c main_arg7 (by
    simp only [hostOps0, hostOps0_1, hostOps0_2, hostOps0_3, hostOps0_4, List.flatten_cons, List.flatten_nil, List.append_nil,
      List.cons_append, List.nil_append, List.Forall, StableHlo.nullary_writes, StableHlo.unary_writes,
      StableHlo.binary_writes, Finset.mem_singleton]
    repeat' apply And.intro
    all_goals exact StableHlo.devRef_ne_of_ne (by decide))

/-! ## The prefetched tables -/

/-- The tables' contents when the region is entered: the two expert tables, the two reload tables, the number of used tiles. -/
def tbl : pre0.Contents (Elt F) := fun j => V m (0 : Dev nD) (pre0.ref j)

theorem V_tbl (c : Dev nD) (j : Fin 5) : V m c (pre0.ref j) = tbl m j := by
  obtain rfl : c = 0 := Subsingleton.elim _ _; rfl

/-- Every expert named by a table has its block inside the arrays of weights. -/
abbrev Fits : Prop := ok0 (F := F) (tbl m)
abbrev adm (hO : Fits m) : (pcfg0 (F := F)).Adm := ⟨tbl m, hO⟩
abbrev cfgM (hO : Fits m) : Pipeline.Cfg sig Λ₀ := cfg0 (adm m hO)

abbrev tA : Memref sig .tc .smem S240 .i32 := Memref.whole main_arg5
abbrev tB : Memref sig .tc .smem S240 .i32 := Memref.whole main_arg6
abbrev tFA : Memref sig .tc .smem S240 .i32 := Memref.whole main_v9
abbrev tFB : Memref sig .tc .smem S240 .i32 := Memref.whole main_v16
abbrev tN : Memref sig .tc .smem S1 .i32 := Memref.whole main_arg7

abbrev TbBuf (c : Dev nD) {S : Shape} {e : EltTy} (M : Memref sig .tc .smem S e) : Type := Buf (Elt F) (M.view.loc (c : Thread nD τ))
/-- A table's buffer held at half the full share (the pipeline keeps the other half). -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tA (tbl m 0) ∗ tbPt c tB (tbl m 1) ∗ tbPt c tFA (tbl m 2) ∗ tbPt c tFB (tbl m 3) ∗ tbPt c tN (tbl m 4)) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-! ## The windows' blocks -/

/-- The block of window `w` at point `t`, read off its array as the region finds it. -/
def iblk (hO : Fits m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem before_0 (hO : Fits m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_1 (hO : Fits m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_2 (hO : Fits m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_3 (hO : Fits m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_4 (hO : Fits m) {c : Dev nD} (dat : Dat τ (Elt F) Unit ℕ (UR sig nD τ) ℕ (cfgM m hO) c)
    (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before_5 (hO : Fits m) {c : Dev nD} (dat : Dat τ (Elt F) Unit ℕ (UR sig nD τ) ℕ (cfgM m hO) c)
    (hA : dat.A 5 = V m c (Pipeline.arrRef spec0 5)) (hafter : ∀ t, dat.after 5 t = iblk m hO c 5 t)
    (t : Fin (cfgM m hO).N) (d) : dat.before 5 t d = iblk m hO c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem before_6 (hO : Fits m) {c : Dev nD} (dat : Dat τ (Elt F) Unit ℕ (UR sig nD τ) ℕ (cfgM m hO) c)
    (hA : dat.A 6 = V m c (Pipeline.arrRef spec0 6)) (hafter : ∀ t, dat.after 6 t = iblk m hO c 6 t)
    (t : Fin (cfgM m hO).N) (d) : dat.before 6 t d = iblk m hO c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)
theorem before_7 (hO : Fits m) {c : Dev nD} (dat : Dat τ (Elt F) Unit ℕ (UR sig nD τ) ℕ (cfgM m hO) c)
    (hA : dat.A 7 = V m c (Pipeline.arrRef spec0 7)) (hafter : ∀ t, dat.after 7 t = iblk m hO c 7 t)
    (t : Fin (cfgM m hO).N) (d) : dat.before 7 t d = iblk m hO c 7 t :=
  (dat.before_in_eq_fetched 7 rfl (fun _ => rfl) (fun _ _ _ => rfl)
    (fun t => by rw [hafter]; unfold Dat.blockOf iblk; rw [hA]; try rfl) t d).trans
    (by unfold Dat.fetched Dat.blockOf iblk; rw [hA]; try rfl)

/-! ## The memrefs the body is called with -/

abbrev ms0 (hO : Fits m) (t : Fin (cfgM m hO).N) : Memref sig .tc .vmem S256x1152 .f32 := spec0_0.stage ((cfgM m hO).slots t 0)
abbrev hs0 (hO : Fits m) (t : Fin (cfgM m hO).N) : (ms0 m hO t).IsWhole := hstage0_0 (((cfgM m hO).slots t 0).cast nbuf0_0)
abbrev ms1 (hO : Fits m) (t : Fin (cfgM m hO).N) : Memref sig .tc .vmem S1x1024 .f32 := spec0_1.stage ((cfgM m hO).slots t 1)
abbrev hs1 (hO : Fits m) (t : Fin (cfgM m hO).N) : (ms1 m hO t).IsWhole := hstage0_1 (((cfgM m hO).slots t 1).cast nbuf0_1)
abbrev ms2 (hO : Fits m) (t : Fin (cfgM m hO).N) : Memref sig .tc .vmem S1x1024x256 .f32 := spec0_2.stage ((cfgM m hO).slots t 2)
abbrev hs2 (hO : Fits m) (t : Fin (cfgM m hO).N) : (ms2 m hO t).IsWhole := hstage0_2 (((cfgM m hO).slots t 2).cast nbuf0_2)
abbrev ms3 (hO : Fits m) (t : Fin (cfgM m hO).N) : Memref sig .tc .vmem S1x1024x256 .f32 := spec0_3.stage ((cfgM m hO).slots t 3)
abbrev hs3 (hO : Fits m) (t : Fin (cfgM m hO).N) : (ms3 m hO t).IsWhole := hstage0_3 (((cfgM m hO).slots t 3).cast nbuf0_3)
abbrev ms4 (hO : Fits m) (t : Fin (cfgM m hO).N) : Memref sig .tc .vmem S1x256x1024 .f32 := spec0_4.stage ((cfgM m hO).slots t 4)
abbrev hs4 (hO : Fits m) (t : Fin (cfgM m hO).N) : (ms4 m hO t).IsWhole := hstage0_4 (((cfgM m hO).slots t 4).cast nbuf0_4)
abbrev ms5 (hO : Fits m) (t : Fin (cfgM m hO).N) : Memref sig .tc .vmem S1x1024x256 .f32 := spec0_5.stage ((cfgM m hO).slots t 5)
abbrev hs5 (hO : Fits m) (t : Fin (cfgM m hO).N) : (ms5 m hO t).IsWhole := hstage0_5 (((cfgM m hO).slots t 5).cast nbuf0_5)
abbrev ms6 (hO : Fits m) (t : Fin (cfgM m hO).N) : Memref sig .tc .vmem S1x1024x256 .f32 := spec0_6.stage ((cfgM m hO).slots t 6)
abbrev hs6 (hO : Fits m) (t : Fin (cfgM m hO).N) : (ms6 m hO t).IsWhole := hstage0_6 (((cfgM m hO).slots t 6).cast nbuf0_6)
abbrev ms7 (hO : Fits m) (t : Fin (cfgM m hO).N) : Memref sig .tc .vmem S1x256x1024 .f32 := spec0_7.stage ((cfgM m hO).slots t 7)
abbrev hs7 (hO : Fits m) (t : Fin (cfgM m hO).N) : (ms7 m hO t).IsWhole := hstage0_7 (((cfgM m hO).slots t 7).cast nbuf0_7)
abbrev ms8 (hO : Fits m) (t : Fin (cfgM m hO).N) : Memref sig .tc .vmem S256x1024 .f32 := spec0_8.stage ((cfgM m hO).slots t 8)
abbrev hs8 (hO : Fits m) (t : Fin (cfgM m hO).N) : (ms8 m hO t).IsWhole := hstage0_8 (((cfgM m hO).slots t 8).cast nbuf0_8)
abbrev sc0 : Memref sig .tc .vmem S1024x256 .bf16 := Memref.whole cc0_scratch0
abbrev sc1 : Memref sig .tc .vmem S1024x256 .bf16 := Memref.whole cc0_scratch1
abbrev sc2 : Memref sig .tc .vmem S256x1024 .bf16 := Memref.whole cc0_scratch2
abbrev sc3 : Memref sig .tc .vmem S1024x256 .bf16 := Memref.whole cc0_scratch3
abbrev sc4 : Memref sig .tc .vmem S1024x256 .bf16 := Memref.whole cc0_scratch4
abbrev sc5 : Memref sig .tc .vmem S256x1024 .bf16 := Memref.whole cc0_scratch5

/-- The body at point `t`. -/
abbrev bodyAt (hO : Fits m) (t : Fin (cfgM m hO).N) : Prog (TpuEff nD τ sig (Elt F) Λ₀ .tc) PUnit :=
  cc0_ffn (grid0.coords t) tA (Memref.isWhole_whole _) tB (Memref.isWhole_whole _) tFA (Memref.isWhole_whole _) tFB (Memref.isWhole_whole _) tN (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)
    sc0 (Memref.isWhole_whole _) sc1 (Memref.isWhole_whole _) sc2 (Memref.isWhole_whole _) sc3 (Memref.isWhole_whole _) sc4 (Memref.isWhole_whole _) sc5 (Memref.isWhole_whole _)

theorem defs₀_row (hO : Fits m) (t : Fin (cfgM m hO).N) :
    defs₀ (F := F) .tc (cfgM m hO).body ((cfgM m hO).bodyArgs t ((cfgM m hO).slots t)) = bodyAt m hO t := by
  unfold defs₀; rw [Defs.onTc_tc]

/-- The launch's scratch and register, the scratch as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem live_0 (hO : Fits m) : ∀ t : Fin (cfgM m hO).N, (cfgM m hO).idle 0 (grid0.coords t) = false := fun _ => rfl
theorem live_1 (hO : Fits m) : ∀ t : Fin (cfgM m hO).N, (cfgM m hO).idle 1 (grid0.coords t) = false := fun _ => rfl
theorem live_2 (hO : Fits m) : ∀ t : Fin (cfgM m hO).N, (cfgM m hO).idle 2 (grid0.coords t) = false := fun _ => rfl
theorem live_3 (hO : Fits m) : ∀ t : Fin (cfgM m hO).N, (cfgM m hO).idle 3 (grid0.coords t) = false := fun _ => rfl
theorem live_4 (hO : Fits m) : ∀ t : Fin (cfgM m hO).N, (cfgM m hO).idle 4 (grid0.coords t) = false := fun _ => rfl
theorem live_5 (hO : Fits m) : ∀ t : Fin (cfgM m hO).N, (cfgM m hO).idle 5 (grid0.coords t) = false := fun _ => rfl
theorem live_6 (hO : Fits m) : ∀ t : Fin (cfgM m hO).N, (cfgM m hO).idle 6 (grid0.coords t) = false := fun _ => rfl
theorem live_7 (hO : Fits m) : ∀ t : Fin (cfgM m hO).N, (cfgM m hO).idle 7 (grid0.coords t) = false := fun _ => rfl

end Cert.KernelIdeal.Experts

end
-- ==== Proof.Body.lean ====
/- One step of the expert call: what its body leaves in the output block and in the scratch that keeps the two experts'
   weights, from what it finds there. -/
module

public import proofs.«01_k».proof.Proof.Setup
public import Idealize.ShloMosaic.Lib.VecWindow
public import Idealize.ShloMosaic.Lib.WholeRead

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Cert.KernelIdeal.Gen

variable {F : FTy → Type} [FloatOps F]

local notation "𝕄" => MT nD τ sig Unit (Elt F) ℕ (UR sig nD τ) ℕ

/-! ## Loads and stores of whole blocks -/

theorem load_whole {Val : EltTy → Type} {s : Shape} {e : EltTy} {M : Memref sig .tc .vmem s e} (h : M.IsWhole) {off : Fin s.rank → ℕ}
    (inb : ∀ a, off a + s.size a ≤ s.size a) (X : s.Idx → Val e) :
    View.readAt Val M.view (Rect.unit off s.size inb).toLoadRect (h.unread X) = X :=
  (View.readAt_full M.view (h.unread X) inb).trans (h.read_unread X)

/-- A block that a branch overwrites whole, and that it otherwise leaves, reads as the branch's choice. -/
theorem read_kept {Val : EltTy → Type} {s : Shape} {e : EltTy} {M : Memref sig .tc .vmem s e} (h : M.IsWhole) (p : Prop) [Decidable p]
    {off : Fin s.rank → ℕ} (inb : ∀ a, off a + s.size a ≤ s.size a) (X w w' : s.Idx → Val e) (hw : w = w') :
    M.view.read Val (if _hc : p then M.view.writes Val (h.unread X) [⟨Rect.unit off s.size inb, w⟩] else h.unread X) = if p then w' else X := by
  split_ifs with hp
  · rw [View.read_writes_full]; exact hw
  · exact h.read_unread X

/-- A load of that block reads the same. -/
theorem load_kept {Val : EltTy → Type} {s : Shape} {e : EltTy} {M : Memref sig .tc .vmem s e} (h : M.IsWhole) (p : Prop) [Decidable p]
    {off off' : Fin s.rank → ℕ} (inb : ∀ a, off a + s.size a ≤ s.size a) (inb' : ∀ a, off' a + s.size a ≤ s.size a) (X w w' : s.Idx → Val e) (hw : w = w') :
    View.readAt Val M.view (Rect.unit off' s.size inb').toLoadRect
      (if _hc : p then M.view.writes Val (h.unread X) [⟨Rect.unit off s.size inb, w⟩] else h.unread X) = if p then w' else X :=
  (View.readAt_full M.view _ inb').trans (read_kept h p inb X w w' hw)

/-- A load of part of a block reads that part of the contents. -/
theorem load_part {Val : EltTy → Type} {s : Shape} {e : EltTy} {M : Memref sig .tc .vmem s e} (h : M.IsWhole) (B : LoadRect s) (X : s.Idx → Val e) :
    View.readAt Val M.view B (h.unread X) = fun x => X (B.idx x) :=
  funext fun x => h.readAt_unread X B x

/-! ## The words the step reads -/

/-- The word of a table of the grid's length that the step at `i` reads. -/
abbrev wordAt (i : grid0.Coords) (f : S240.Idx → Elt F .i32) : BitVec 32 :=
  f ((Rect.unit (s := S240) (k0_off1 i) S1.size (k0_off1_inb i)).toLoadRect.idx (Shape.Idx.first (numel1_S1.symm ▸ Nat.one_pos)))

/-- The number of used tiles. -/
abbrev usedW (f : S1.Idx → Elt F .i32) : BitVec 32 :=
  f ((Rect.unit (s := S1) ![0] S1.size inb_S1_S1_0).toLoadRect.idx (Shape.Idx.first (numel1_S1.symm ▸ Nat.one_pos)))

/-- The step loads an expert's weights anew. -/
abbrev Fresh (w : BitVec 32) : Prop := Scalar.cmpi .ne (Scalar.extui (Scalar.cmpi .eq w 1#32)) 0#32 = 1#1

theorem fresh_iff (w : BitVec 32) : Fresh w ↔ w = 1#32 := by
  unfold Fresh
  rw [scalar_cmpi_eq, scalar_cmpi_eq, cmpi_eq_eq, scalar_extui_ofBool]
  by_cases h : w = 1#32
  · simp only [h, decide_true, if_true]; decide
  · simp only [h, decide_false]; decide

theorem live_iff (i : grid0.Coords) (w : BitVec 32) : k0_cond3 i w = 1#1 ↔ (BitVec.ofNat 32 (i 0).val).toInt < w.toInt := by
  unfold k0_cond3
  simp only [scalar_cmpi_eq, cmpi_slt_eq, scalar_extui_ofBool]
  by_cases h : (BitVec.ofNat 32 (i 0).val).toInt < w.toInt
  · simp only [h, decide_true, if_true]; decide
  · simp only [h, decide_false]; decide

theorem dead_iff (i : grid0.Coords) (w : BitVec 32) : k0_cond4 i w = 1#1 ↔ ¬ k0_cond3 i w = 1#1 := by
  rw [live_iff]
  unfold k0_cond4
  simp only [scalar_cmpi_eq, cmpi_sge_eq, scalar_extui_ofBool]
  by_cases h : (BitVec.ofNat 32 (i 0).val).toInt < w.toInt
  · simp only [h, not_lt.mp, not_le.mpr h, decide_false]; decide
  · simp only [h, not_lt.mp h, decide_true]; decide

/-! ## One step -/

/-- The part of a tile of rows that holds the rows, and the two columns that hold the experts' weights. -/
abbrev rowsOf (x : Vec F S256x1152 .f32) : Vec F S256x1024 .f32 := fun y => x ((Rect.unit (s := S256x1152) ![0, 0] S256x1024.size inb_S256x1152_S256x1024_0_0).toLoadRect.idx y)
abbrev gateA (x : Vec F S256x1152 .f32) : Vec F S256x1 .f32 := fun y => x ((Rect.unit (s := S256x1152) ![0, 1026] S256x1.size inb_S256x1152_S256x1_0_1026).toLoadRect.idx y)
abbrev gateB (x : Vec F S256x1152 .f32) : Vec F S256x1 .f32 := fun y => x ((Rect.unit (s := S256x1152) ![0, 1027] S256x1.size inb_S256x1152_S256x1_0_1027).toLoadRect.idx y)

/-- What a used tile's step leaves in its output block: the tile's rows, and the two experts' terms added to them. -/
def tileOut (x : Vec F S256x1152 .f32) (g : Vec F S1x1024 .f32) (a1 : Vec F S1024x256 .bf16) (a3 : Vec F S1024x256 .bf16) (a2 : Vec F S256x1024 .bf16)
    (b1 : Vec F S1024x256 .bf16) (b3 : Vec F S1024x256 .bf16) (b2 : Vec F S256x1024 .bf16) : Vec F S256x1024 .f32 :=
  k0_pay7 (gateB x) (k0_pay9 (rowsOf x) g) (k0_pay10 (rowsOf x) (gateA x) g a1 a3 a2) b1 b3 b2

theorem tileOut_of (x : Vec F S256x1152 .f32) (g : Vec F S1x1024 .f32) {r : Vec F S256x1024 .f32} {ga gb : Vec F S256x1 .f32} {g' : Vec F S1x1024 .f32}
    {a1 a1' a3 a3' b1 b1' b3 b3' : Vec F S1024x256 .bf16} {a2 a2' b2 b2' : Vec F S256x1024 .bf16}
    (hr : r = rowsOf x) (hga : ga = gateA x) (hgb : gb = gateB x) (hg : g' = g) (h1 : a1' = a1) (h3 : a3' = a3) (h2 : a2' = a2)
    (k1 : b1' = b1) (k3 : b3' = b3) (k2 : b2' = b2) :
    k0_pay7 gb (k0_pay9 r g') (k0_pay10 r ga g' a1' a3' a2') b1' b3' b2' = tileOut x g a1 a3 a2 b1 b3 b2 := by
  subst hr hga hgb hg h1 h3 h2 k1 k3 k2; rfl

set_option maxHeartbeats 4000000 in
/-- The body's triple: the inputs and the tables come back, each scratch is what it was or the cast of the block that its
flag asks for, and the output block is the tile's result, or zeros on an unused tile. -/
theorem step (c : Dev nD) (i : grid0.Coords) (arg6 : Memref sig .tc .vmem S256x1152 .f32) (harg6 : arg6.IsWhole) (arg7 : Memref sig .tc .vmem S1x1024 .f32) (harg7 : arg7.IsWhole) (arg8 : Memref sig .tc .vmem S1x1024x256 .f32) (harg8 : arg8.IsWhole) (arg9 : Memref sig .tc .vmem S1x1024x256 .f32) (harg9 : arg9.IsWhole) (arg10 : Memref sig .tc .vmem S1x256x1024 .f32) (harg10 : arg10.IsWhole) (arg11 : Memref sig .tc .vmem S1x1024x256 .f32) (harg11 : arg11.IsWhole) (arg12 : Memref sig .tc .vmem S1x1024x256 .f32) (harg12 : arg12.IsWhole) (arg13 : Memref sig .tc .vmem S1x256x1024 .f32) (harg13 : arg13.IsWhole) (arg14 : Memref sig .tc .vmem S256x1024 .f32) (harg14 : arg14.IsWhole) (arg15 : Memref sig .tc .vmem S1024x256 .bf16) (harg15 : arg15.IsWhole) (arg16 : Memref sig .tc .vmem S1024x256 .bf16) (harg16 : arg16.IsWhole) (arg17 : Memref sig .tc .vmem S256x1024 .bf16) (harg17 : arg17.IsWhole) (arg18 : Memref sig .tc .vmem S1024x256 .bf16) (harg18 : arg18.IsWhole) (arg19 : Memref sig .tc .vmem S1024x256 .bf16) (harg19 : arg19.IsWhole) (arg20 : Memref sig .tc .vmem S256x1024 .bf16) (harg20 : arg20.IsWhole)
    (x0 : Vec F S256x1152 .f32) (x1 : Vec F S1x1024 .f32) (x2 : Vec F S1x1024x256 .f32) (x3 : Vec F S1x1024x256 .f32) (x4 : Vec F S1x256x1024 .f32) (x5 : Vec F S1x1024x256 .f32) (x6 : Vec F S1x1024x256 .f32) (x7 : Vec F S1x256x1024 .f32) (s0 : Vec F S1024x256 .bf16) (s1 : Vec F S1024x256 .bf16) (s2 : Vec F S256x1024 .bf16) (s3 : Vec F S1024x256 .bf16) (s4 : Vec F S1024x256 .bf16) (s5 : Vec F S256x1024 .bf16)
    (ta : TbBuf (F := F) c tA) (tb : TbBuf (F := F) c tB) (tfa : TbBuf (F := F) c tFA) (tfb : TbBuf (F := F) c tFB) (tn : TbBuf (F := F) c tN)
    (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ (∃ d, owns (c : Thread nD τ) arg14 fullShare d) ∗ owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg19 fullShare s4 ∗ owns (c : Thread nD τ) arg20 fullShare s5 ∗ tbPt c tA ta ∗ tbPt c tB tb ∗ tbPt c tFA tfa ∗ tbPt c tFB tfb ∗ tbPt c tN tn
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare (if k0_cond3 i (usedW (show S1.Idx → Elt F .i32 from tn)) = 1#1 then tileOut x0 x1 (if Fresh (wordAt i (show S240.Idx → Elt F .i32 from tfa)) then k0_pay1 x2 else s0) (if Fresh (wordAt i (show S240.Idx → Elt F .i32 from tfa)) then k0_pay2 x3 else s1) (if Fresh (wordAt i (show S240.Idx → Elt F .i32 from tfa)) then k0_pay3 x4 else s2) (if Fresh (wordAt i (show S240.Idx → Elt F .i32 from tfb)) then k0_pay4 x5 else s3) (if Fresh (wordAt i (show S240.Idx → Elt F .i32 from tfb)) then k0_pay5 x6 else s4) (if Fresh (wordAt i (show S240.Idx → Elt F .i32 from tfb)) then k0_pay6 x7 else s5) else k0_pay8) ∗ owns (c : Thread nD τ) arg15 fullShare (if Fresh (wordAt i (show S240.Idx → Elt F .i32 from tfa)) then k0_pay1 x2 else s0) ∗ owns (c : Thread nD τ) arg16 fullShare (if Fresh (wordAt i (show S240.Idx → Elt F .i32 from tfa)) then k0_pay2 x3 else s1) ∗ owns (c : Thread nD τ) arg17 fullShare (if Fresh (wordAt i (show S240.Idx → Elt F .i32 from tfa)) then k0_pay3 x4 else s2) ∗ owns (c : Thread nD τ) arg18 fullShare (if Fresh (wordAt i (show S240.Idx → Elt F .i32 from tfb)) then k0_pay4 x5 else s3) ∗ owns (c : Thread nD τ) arg19 fullShare (if Fresh (wordAt i (show S240.Idx → Elt F .i32 from tfb)) then k0_pay5 x6 else s4) ∗ owns (c : Thread nD τ) arg20 fullShare (if Fresh (wordAt i (show S240.Idx → Elt F .i32 from tfb)) then k0_pay6 x7 else s5) ∗ tbPt c tA ta ∗ tbPt c tB tb ∗ tbPt c tFA tfa ∗ tbPt c tFB tfb ∗ tbPt c tN tn) -∗ K ⟨⟩))
      ⊢ wp frame (wpE (defs₀ (F := F)) Variants.none c none) E (cc0_ffn i tA (Memref.isWhole_whole _) tB (Memref.isWhole_whole _) tFA (Memref.isWhole_whole _) tFB (Memref.isWhole_whole _) tN (Memref.isWhole_whole _) arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, HT1, HT2, HT3, HT4, Hk⟩
  obtain rfl := harg6.eq_unread hf0
  obtain rfl := harg7.eq_unread hf1
  obtain rfl := harg8.eq_unread hf2
  obtain rfl := harg9.eq_unread hf3
  obtain rfl := harg10.eq_unread hf4
  obtain rfl := harg11.eq_unread hf5
  obtain rfl := harg12.eq_unread hf6
  obtain rfl := harg13.eq_unread hf7
  obtain rfl := harg15.eq_unread hfs0
  obtain rfl := harg16.eq_unread hfs1
  obtain rfl := harg17.eq_unread hfs2
  obtain rfl := harg18.eq_unread hfs3
  obtain rfl := harg19.eq_unread hfs4
  obtain rfl := harg20.eq_unread hfs5
  sl_exec
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [H6]
  · iexists _; isplitr; · ipureintro; exact harg12.read_unread _
    iexact H6
  isplitl [H7]
  · iexists _; isplitr; · ipureintro; exact harg13.read_unread _
    iexact H7
  isplitl [H8]
  · iexists _; isplitr
    swap; · iexact H8
    ipureintro
    by_cases h3 : k0_cond3 i (usedW (show S1.Idx → Elt F .i32 from tn)) = 1#1
    · rw [if_pos h3, dif_neg (show ¬ k0_cond4 i (step.sl.r_2 c tn) = 1#1 from fun h => (dead_iff i _).mp h h3),
        dif_pos (show k0_cond3 i (step.sl.r_2 c tn) = 1#1 from h3), View.read_writes_full]
      unfold step.sl.r_3 step.sl.r_4 step.sl.r_5 step.sl.v35 step.sl.v37 step.sl.v49 step.sl.v54 step.sl.v56 step.sl.v68 tileOut
      exact tileOut_of x0 x1 (load_part harg6 _ x0) (load_part harg6 _ x0) (load_part harg6 _ x0) (load_whole harg7 _ x1)
        (load_kept harg15 _ _ _ s0 _ _ (congrArg k0_pay1 (load_whole harg8 _ x2)))
        (load_kept harg16 _ _ _ s1 _ _ (congrArg k0_pay2 (load_whole harg9 _ x3)))
        (load_kept harg17 _ _ _ s2 _ _ (congrArg k0_pay3 (load_whole harg10 _ x4)))
        (load_kept harg18 _ _ _ s3 _ _ (congrArg k0_pay4 (load_whole harg11 _ x5)))
        (load_kept harg19 _ _ _ s4 _ _ (congrArg k0_pay5 (load_whole harg12 _ x6)))
        (load_kept harg20 _ _ _ s5 _ _ (congrArg k0_pay6 (load_whole harg13 _ x7)))
    · rw [if_neg h3, dif_pos (show k0_cond4 i (step.sl.r_2 c tn) = 1#1 from (dead_iff i _).mpr h3), View.read_writes_full]
  isplitl [HS0]
  · iexists _; isplitr; swap; · iexact HS0
    ipureintro; exact read_kept harg15 _ _ s0 _ _ (congrArg k0_pay1 (load_whole harg8 _ x2))
  isplitl [HS1]
  · iexists _; isplitr; swap; · iexact HS1
    ipureintro; exact read_kept harg16 _ _ s1 _ _ (congrArg k0_pay2 (load_whole harg9 _ x3))
  isplitl [HS2]
  · iexists _; isplitr; swap; · iexact HS2
    ipureintro; exact read_kept harg17 _ _ s2 _ _ (congrArg k0_pay3 (load_whole harg10 _ x4))
  isplitl [HS3]
  · iexists _; isplitr; swap; · iexact HS3
    ipureintro; exact read_kept harg18 _ _ s3 _ _ (congrArg k0_pay4 (load_whole harg11 _ x5))
  isplitl [HS4]
  · iexists _; isplitr; swap; · iexact HS4
    ipureintro; exact read_kept harg19 _ _ s4 _ _ (congrArg k0_pay5 (load_whole harg12 _ x6))
  isplitl [HS5]
  · iexists _; isplitr; swap; · iexact HS5
    ipureintro; exact read_kept harg20 _ _ s5 _ _ (congrArg k0_pay6 (load_whole harg13 _ x7))
  isplitl [HT0]; · iexact HT0
  isplitl [HT1]; · iexact HT1
  isplitl [HT2]; · iexact HT2
  isplitl [HT3]; · iexact HT3
  iexact HT4

end Cert.KernelIdeal.Experts

end
-- ==== Proof.Tables.lean ====
/- The tables: which tile reloads an expert's weights, and what that leaves in the scratch from one tile to the next; and
   each window's block at a point, as entries of the arrays. -/
module

public import proofs.«01_k».proof.Proof.Body
public import Idealize.ShloMosaic.Lib.Pointwise
public import Idealize.ShloMosaic.Lib.Pipeline.Value

@[expose] public section

set_option maxRecDepth 16384

noncomputable section

namespace Cert.KernelIdeal.Experts

open Idealize.ShloMosaic Idealize.ShloMosaic.TcCoe Idealize.ShloMosaic.Tactic
open Idealize.ShloMosaic.Rounds
open Idealize.ShloMosaic.WordCmp
open Idealize.ShloMosaic.Pointwise
open Idealize.ShloMosaic.Pipeline (Window)
open Cert.KernelIdeal.Gen

variable {F : FTy → Type} [FloatOps F]
variable (m : (ℓ : Loc nD τ sig) → Buf (Elt F) ℓ) (ρ : Dev nD → PrngReg)

/-! ## The reload flags -/

/-- A table of experts moved on by one tile. -/
def rolled (a : IVec S240 32) : IVec S240 32 :=
  concatenate S240 0 [⟨S1, extractStridedSlice S1 ![239] a slices_S240_S1_239⟩, ⟨S239, extractStridedSlice S239 ![0] a slices_S240_S239_0⟩] concatenates_S1_S239_S240_d0

theorem rolled_succ (a : IVec S240 32) (t : Fin 240) (h : 0 < t.val) : rolled a (ix1 t) = a (ix1 (⟨t.val - 1, by omega⟩ : Fin 240)) := by
  unfold rolled
  pointwise
  rw [dif_neg (by omega)]

/-- The host's flag of each tile: the tile is used, and it is the first or its expert differs from the tile's before. -/
def flagOf (a : IVec S240 32) (n : IVec S1 32) : IVec S240 32 :=
  extui 32 (andi (cmpi .slt (iotaInDim S240 32 0) (broadcastInDim S240 ![0] bcast_S1_S240_0 n))
    (ori (cmpi .eq (iotaInDim S240 32 0) (broadcastInDim S240 ![] bcast_S_S240 (constantI S_ 32 0#32))) (cmpi .ne a (rolled a)))) natLt_1_32

/-- A used tile without the flag is not the first, and has the expert of the tile before. -/
theorem flagOf_keeps (a : IVec S240 32) (n : IVec S1 32) (t : Fin 240) (hl : (BitVec.ofNat 32 t.val).toInt < (n (ix1 (0 : Fin 1))).toInt)
    (hf : ¬ flagOf a n (ix1 t) = 1#32) : ∃ h : 0 < t.val, a (ix1 t) = a (ix1 (⟨t.val - 1, by omega⟩ : Fin 240)) := by
  by_contra hno
  apply hf
  have e2 : IntOp.cmpi .slt (BitVec.ofNat 32 t.val) (n (ix1 (0 : Fin 1))) = 1#1 := by
    rw [cmpi_slt_eq, decide_eq_true hl]; rfl
  have e3 : IntOp.ori (IntOp.cmpi .eq (BitVec.ofNat 32 t.val) 0#32) (IntOp.cmpi .ne (a (ix1 t)) (rolled a (ix1 t))) = 1#1 := by
    rw [cmpi_eq_eq, cmpi_ne_eq, ori_ofBool, ofBool_eq_one_iff]
    by_cases h0 : t.val = 0
    · rw [h0]; simp
    · have : a (ix1 t) ≠ rolled a (ix1 t) := fun he => hno ⟨by omega, he.trans (rolled_succ a t (by omega))⟩
      simp [this]
  have hb : (broadcastInDim S240 ![0] bcast_S1_S240_0 n) (ix1 t) = n (ix1 (0 : Fin 1)) := by pointwise
  show (IntOp.andi (IntOp.cmpi .slt (BitVec.ofNat 32 t.val) ((broadcastInDim S240 ![0] bcast_S1_S240_0 n) (ix1 t)))
    (IntOp.ori (IntOp.cmpi .eq (BitVec.ofNat 32 t.val) 0#32) (IntOp.cmpi .ne (a (ix1 t)) (rolled a (ix1 t))))).setWidth 32 = 1#32
  rw [hb, e2, e3]; rfl

theorem V_flagA (c : Dev nD) : V m c main_v9 = flagOf (m ((c : Thread nD τ).loc main_arg5)) (m ((c : Thread nD τ).loc main_arg7)) := by
  unfold V hostLines hostOps0 hostOps0_1 hostOps0_2 hostOps0_3 hostOps0_4
  simp only [List.flatten_cons, List.flatten_nil, List.append_nil, List.cons_append, List.nil_append]
  after_results
  rfl
theorem V_flagB (c : Dev nD) : V m c main_v16 = flagOf (m ((c : Thread nD τ).loc main_arg6)) (m ((c : Thread nD τ).loc main_arg7)) := by
  unfold V hostLines hostOps0 hostOps0_1 hostOps0_2 hostOps0_3 hostOps0_4
  simp only [List.flatten_cons, List.flatten_nil, List.append_nil, List.cons_append, List.nil_append]
  after_results
  rfl

/-! ## The words of a point -/

theorem wordAt_eq (i : grid0.Coords) (f : S240.Idx → Elt F .i32) : wordAt i f = f (ix1 (⟨(i 0).val, (i 0).isLt⟩ : Fin 240)) := by
  refine congrArg f (funext fun a => Fin.ext ?_)
  have h := congrFun (k0_off1_eq i) a
  fin_cases a
  exact h
theorem usedW_eq (f : S1.Idx → Elt F .i32) : usedW f = f (ix1 (0 : Fin 1)) := by
  refine congrArg f (funext fun a => Fin.ext ?_)
  fin_cases a
  rfl

theorem coords_val : ∀ t : Fin grid0.N, (grid0.coords t 0).val = t.val := by decide +kernel

theorem wordAt_coords (t : Fin grid0.N) (f : S240.Idx → Elt F .i32) : wordAt (grid0.coords t) f = f (ix1 (⟨t.val, lt_of_lt_of_eq t.isLt N_0⟩ : Fin 240)) := by
  rw [wordAt_eq]; exact congrArg f (congrArg ix1 (Fin.ext (coords_val t)))

/-- The experts of tile `t`, and the number of used tiles. -/
abbrev expA (t : Fin 240) : BitVec 32 := (m (((0 : Dev nD) : Thread nD τ).loc main_arg5) : S240.Idx → Elt F .i32) (ix1 t)
abbrev expB (t : Fin 240) : BitVec 32 := (m (((0 : Dev nD) : Thread nD τ).loc main_arg6) : S240.Idx → Elt F .i32) (ix1 t)
abbrev used : BitVec 32 := (m (((0 : Dev nD) : Thread nD τ).loc main_arg7) : S1.Idx → Elt F .i32) (ix1 (0 : Fin 1))
/-- Tile `t` holds rows to compute. -/
abbrev Live (t : Fin 240) : Prop := (BitVec.ofNat 32 t.val).toInt < (used m).toInt

abbrev pt (t : Fin grid0.N) : Fin 240 := ⟨t.val, lt_of_lt_of_eq t.isLt N_0⟩

theorem word_A (t : Fin grid0.N) : wordAt (F := F) (grid0.coords t) (tbl m 0) = expA m (pt t) :=
  (wordAt_coords t _).trans (congrFun (V_arg5 m 0) _)
theorem word_B (t : Fin grid0.N) : wordAt (F := F) (grid0.coords t) (tbl m 1) = expB m (pt t) :=
  (wordAt_coords t _).trans (congrFun (V_arg6 m 0) _)
theorem word_N : usedW (F := F) (tbl m 4) = used m := (usedW_eq _).trans (congrFun (V_arg7 m 0) _)

theorem live_at (t : Fin grid0.N) : k0_cond3 (grid0.coords t) (usedW (F := F) (tbl m 4)) = 1#1 ↔ Live m (pt t) := by
  rw [live_iff, word_N, coords_val]

theorem keeps_A (t : Fin grid0.N) (hl : Live m (pt t)) (hf : ¬ Fresh (wordAt (F := F) (grid0.coords t) (tbl m 2))) :
    ∃ h : 0 < t.val, expA m (pt t) = expA m (pt ⟨t.val - 1, lt_of_le_of_lt (Nat.sub_le _ _) t.isLt⟩) :=
  flagOf_keeps _ _ (pt t) hl fun h => hf ((fresh_iff _).mpr ((wordAt_coords t _).trans ((congrFun (V_flagA m 0) _).trans h)))
theorem keeps_B (t : Fin grid0.N) (hl : Live m (pt t)) (hf : ¬ Fresh (wordAt (F := F) (grid0.coords t) (tbl m 3))) :
    ∃ h : 0 < t.val, expB m (pt t) = expB m (pt ⟨t.val - 1, lt_of_le_of_lt (Nat.sub_le _ _) t.isLt⟩) :=
  flagOf_keeps _ _ (pt t) hl fun h => hf ((fresh_iff _).mpr ((wordAt_coords t _).trans ((congrFun (V_flagB m 0) _).trans h)))

/-- Used tiles come first. -/
theorem live_mono {s t : Fin 240} (h : s.val ≤ t.val) (hl : Live m t) : Live m s := by
  unfold Live at *
  rw [toInt_ofNat_of_lt (by omega)] at *
  omega

/-! ## The windows' blocks -/

theorem blk0 (hO : Fits m) (c : Dev nD) (t : Fin (cfgM m hO).N) (r : Fin 256) (k : Fin 1152) :
    iblk m hO c 0 t (ix2 r k) = (m ((c : Thread nD τ).loc main_arg0) : S61440x1152.Idx → Elt F .f32)
      (ix2 (⟨t.val * 256 + r.val, by have := lt_of_lt_of_eq t.isLt N_0; omega⟩ : Fin 61440) k) := by
  show V m c main_arg0 ((((cfgM m hO).win 0).rect t).emb (ix2 r k)) = _
  rw [V_arg0]
  refine congrArg (m ((c : Thread nD τ).loc main_arg0) : S61440x1152.Idx → Elt F .f32) (funext fun (a : Fin 2) => Fin.ext ?_)
  refine (Window.rect_emb_val ((cfgM m hO).win 0) t _ a).trans ?_
  fin_cases a
  · exact congrArg (· * 256 + r.val) (show (BitVec.ofNat 32 (grid0.coords t 0).val).toNat = t.val from by
      rw [coords_val]; exact toNat_ofNat_of_lt (by have := lt_of_lt_of_eq t.isLt N_0; omega))
  · show 0 * 1152 + k.val = k.val; omega

theorem blk1 (hO : Fits m) (c : Dev nD) (t : Fin (cfgM m hO).N) (r : Fin 1) (k : Fin 1024) :
    iblk m hO c 1 t (ix2 r k) = (m ((c : Thread nD τ).loc main_arg1) : S1x1024.Idx → Elt F .f32) (ix2 r k) := by
  show V m c main_arg1 ((((cfgM m hO).win 1).rect t).emb (ix2 r k)) = _
  rw [V_arg1]
  refine congrArg (m ((c : Thread nD τ).loc main_arg1) : S1x1024.Idx → Elt F .f32) (funext fun (a : Fin 2) => Fin.ext ?_)
  refine (Window.rect_emb_val ((cfgM m hO).win 1) t _ a).trans ?_
  fin_cases a
  · show 0 * 1 + r.val = r.val; omega
  · show 0 * 1024 + k.val = k.val; omega

/-- The number a word names among the 32 experts. -/
abbrev exp32 (w : BitVec 32) : Fin 32 := ⟨w.toNat % 32, Nat.mod_lt _ (by decide)⟩

theorem blk2 (hO : Fits m) (c : Dev nD) (t : Fin (cfgM m hO).N) (z : Fin 1) (p : Fin 1024) (q : Fin 256) :
    iblk m hO c 2 t (ix3 z p q) = (m ((c : Thread nD τ).loc main_arg2) : S32x1024x256.Idx → Elt F .f32) (ix3 (exp32 (expA m (pt t))) p q) := by
  have hlt : (expA m (pt t)).toNat < 32 := by
    obtain ⟨h, -⟩ := hO.1 (grid0.coords t)
    have h0 : ((wordAt (F := F) (grid0.coords t) (tbl m 0)).toNat + 1) * 1 ≤ 32 := h 0
    rw [word_A] at h0; omega
  show V m c main_arg2 ((((cfgM m hO).win 2).rect t).emb (ix3 z p q)) = _
  rw [V_arg2]
  refine congrArg (m ((c : Thread nD τ).loc main_arg2) : S32x1024x256.Idx → Elt F .f32) (funext fun (a : Fin 3) => Fin.ext ?_)
  refine (Window.rect_emb_val ((cfgM m hO).win 2) t _ a).trans ?_
  fin_cases a
  · show (wordAt (F := F) (grid0.coords t) (tbl m 0)).toNat * 1 + z.val = (expA m (pt t)).toNat % 32
    rw [word_A, Nat.mod_eq_of_lt hlt]; omega
  · show 0 * 1024 + p.val = p.val; omega
  · show 0 * 256 + q.val = q.val; omega

theorem blk2_congr (hO : Fits m) (c : Dev nD) (t u : Fin (cfgM m hO).N) (h : expA m (pt t) = expA m (pt u)) :
    (iblk m hO c 2 t : S1x1024x256.Idx → Elt F .f32) = iblk m hO c 2 u := by
  have e : ∀ y : S1x1024x256.Idx, (iblk m hO c 2 t : S1x1024x256.Idx → Elt F .f32) y = iblk m hO c 2 u y := by
    intro y; idx_vars y; exact (blk2 m hO c t _ _ _).trans ((congrArg (fun e => (m ((c : Thread nD τ).loc main_arg2) : S32x1024x256.Idx → Elt F .f32) (ix3 (exp32 e) _ _)) h).trans (blk2 m hO c u _ _ _).symm)
  exact funext e

theorem blk3 (hO : Fits m) (c : Dev nD) (t : Fin (cfgM m hO).N) (z : Fin 1) (p : Fin 1024) (q : Fin 256) :
    iblk m hO c 3 t (ix3 z p q) = (m ((c : Thread nD τ).loc main_arg3) : S32x1024x256.Idx → Elt F .f32) (ix3 (exp32 (expA m (pt t))) p q) := by
  have hlt : (expA m (pt t)).toNat < 32 := by
    obtain ⟨h, -⟩ := hO.2.1 (grid0.coords t)
    have h0 : ((wordAt (F := F) (grid0.coords t) (tbl m 0)).toNat + 1) * 1 ≤ 32 := h 0
    rw [word_A] at h0; omega
  show V m c main_arg3 ((((cfgM m hO).win 3).rect t).emb (ix3 z p q)) = _
  rw [V_arg3]
  refine congrArg (m ((c : Thread nD τ).loc main_arg3) : S32x1024x256.Idx → Elt F .f32) (funext fun (a : Fin 3) => Fin.ext ?_)
  refine (Window.rect_emb_val ((cfgM m hO).win 3) t _ a).trans ?_
  fin_cases a
  · show (wordAt (F := F) (grid0.coords t) (tbl m 0)).toNat * 1 + z.val = (expA m (pt t)).toNat % 32
    rw [word_A, Nat.mod_eq_of_lt hlt]; omega
  · show 0 * 1024 + p.val = p.val; omega
  · show 0 * 256 + q.val = q.val; omega

theorem blk3_congr (hO : Fits m) (c : Dev nD) (t u : Fin (cfgM m hO).N) (h : expA m (pt t) = expA m (pt u)) :
    (iblk m hO c 3 t : S1x1024x256.Idx → Elt F .f32) = iblk m hO c 3 u := by
  have e : ∀ y : S1x1024x256.Idx, (iblk m hO c 3 t : S1x1024x256.Idx → Elt F .f32) y = iblk m hO c 3 u y := by
    intro y; idx_vars y; exact (blk3 m hO c t _ _ _).trans ((congrArg (fun e => (m ((c : Thread nD τ).loc main_arg3) : S32x1024x256.Idx → Elt F .f32) (ix3 (exp32 e) _ _)) h).trans (blk3 m hO c u _ _ _).symm)
  exact funext e

theorem blk4 (hO : Fits m) (c : Dev nD) (t : Fin (cfgM m hO).N) (z : Fin 1) (p : Fin 256) (q : Fin 1024) :
    iblk m hO c 4 t (ix3 z p q) = (m ((c : Thread nD τ).loc main_arg4) : S32x256x1024.Idx → Elt F .f32) (ix3 (exp32 (expA m (pt t))) p q) := by
  have hlt : (expA m (pt t)).toNat < 32 := by
    obtain ⟨h, -⟩ := hO.2.2.1 (grid0.coords t)
    have h0 : ((wordAt (F := F) (grid0.coords t) (tbl m 0)).toNat + 1) * 1 ≤ 32 := h 0
    rw [word_A] at h0; omega
  show V m c main_arg4 ((((cfgM m hO).win 4).rect t).emb (ix3 z p q)) = _
  rw [V_arg4]
  refine congrArg (m ((c : Thread nD τ).loc main_arg4) : S32x256x1024.Idx → Elt F .f32) (funext fun (a : Fin 3) => Fin.ext ?_)
  refine (Window.rect_emb_val ((cfgM m hO).win 4) t _ a).trans ?_
  fin_cases a
  · show (wordAt (F := F) (grid0.coords t) (tbl m 0)).toNat * 1 + z.val = (expA m (pt t)).toNat % 32
    rw [word_A, Nat.mod_eq_of_lt hlt]; omega
  · show 0 * 256 + p.val = p.val; omega
  · show 0 * 1024 + q.val = q.val; omega

theorem blk4_congr (hO : Fits m) (c : Dev nD) (t u : Fin (cfgM m hO).N) (h : expA m (pt t) = expA m (pt u)) :
    (iblk m hO c 4 t : S1x256x1024.Idx → Elt F .f32) = iblk m hO c 4 u := by
  have e : ∀ y : S1x256x1024.Idx, (iblk m hO c 4 t : S1x256x1024.Idx → Elt F .f32) y = iblk m hO c 4 u y := by
    intro y; idx_vars y; exact (blk4 m hO c t _ _ _).trans ((congrArg (fun e => (m ((c : Thread nD τ).loc main_arg4) : S32x256x1024.Idx → Elt F .f32) (ix3 (exp32 e) _ _)) h).trans (blk4 m hO c u _ _ _).symm)
  exact funext e

theorem blk5 (hO : Fits m) (c : Dev nD) (t : Fin (cfgM m hO).N) (z : Fin 1) (p : Fin 1024) (q : Fin 256) :
    iblk m hO c 5 t (ix3 z p q) = (m ((c : Thread nD τ).loc main_arg2) : S32x1024x256.Idx → Elt F .f32) (ix3 (exp32 (expB m (pt t))) p q) := by
  have hlt : (expB m (pt t)).toNat < 32 := by
    obtain ⟨h, -⟩ := hO.2.2.2.1 (grid0.coords t)
    have h0 : ((wordAt (F := F) (grid0.coords t) (tbl m 1)).toNat + 1) * 1 ≤ 32 := h 0
    rw [word_B] at h0; omega
  show V m c main_arg2 ((((cfgM m hO).win 5).rect t).emb (ix3 z p q)) = _
  rw [V_arg2]
  refine congrArg (m ((c : Thread nD τ).loc main_arg2) : S32x1024x256.Idx → Elt F .f32) (funext fun (a : Fin 3) => Fin.ext ?_)
  refine (Window.rect_emb_val ((cfgM m hO).win 5) t _ a).trans ?_
  fin_cases a
  · show (wordAt (F := F) (grid0.coords t) (tbl m 1)).toNat * 1 + z.val = (expB m (pt t)).toNat % 32
    rw [word_B, Nat.mod_eq_of_lt hlt]; omega
  · show 0 * 1024 + p.val = p.val; omega
  · show 0 * 256 + q.val = q.val; omega

theorem blk5_congr (hO : Fits m) (c : Dev nD) (t u : Fin (cfgM m hO).N) (h : expB m (pt t) = expB m (pt u)) :
    (iblk m hO c 5 t : S1x1024x256.Idx → Elt F .f32) = iblk m hO c 5 u := by
  have e : ∀ y : S1x1024x256.Idx, (iblk m hO c 5 t : S1x1024x256.Idx → Elt F .f32) y = iblk m hO c 5 u y := by
    intro y; idx_vars y; exact (blk5 m hO c t _ _ _).trans ((congrArg (fun e => (m ((c : Thread nD τ).loc main_arg2) : S32x1024x256.Idx → Elt F .f32) (ix3 (exp32 e) _ _)) h).trans (blk5 m hO c u _ _ _).symm)
  exact funext e

theorem blk6 (hO : Fits m) (c : Dev nD) (t : Fin (cfgM m hO).N) (z : Fin 1) (p : Fin 1024) (q : Fin 256) :
    iblk m hO c 6 t (ix3 z p q) = (m ((c : Thread nD τ).loc main_arg3) : S32x1024x256.Idx → Elt F .f32) (ix3 (exp32 (expB m (pt t))) p q) := by
  have hlt : (expB m (pt t)).toNat < 32 := by
    obtain ⟨h, -⟩ := hO.2.2.2.2.1 (grid0.coords t)
    have h0 : ((wordAt (F := F) (grid0.coords t) (tbl m 1)).toNat + 1) * 1 ≤ 32 := h 0
    rw [word_B] at h0; omega
  show V m c main_arg3 ((((cfgM m hO).win 6).rect t).emb (ix3 z p q)) = _
  rw [V_arg3]
  refine congrArg (m ((c : Thread nD τ).loc main_arg3) : S32x1024x256.Idx → Elt F .f32) (funext fun (a : Fin 3) => Fin.ext ?_)
  refine (Window.rect_emb_val ((cfgM m hO).win 6) t _ a).trans ?_
  fin_cases a
  · show (wordAt (F := F) (grid0.coords t) (tbl m 1)).toNat * 1 + z.val = (expB m (pt t)).toNat % 32
    rw [word_B, Nat.mod_eq_of_lt hlt]; omega
  · show 0 * 1024 + p.val = p.val; omega
  · show 0 * 256 + q.val = q.val; omega

theorem blk6_congr (hO : Fits m) (c : Dev nD) (t u : Fin (cfgM m hO).N) (h : expB m (pt t) = expB m (pt u)) :
    (iblk m hO c 6 t : S1x1024x256.Idx → Elt F .f32) = iblk m hO c 6 u := by
  have e : ∀ y : S1x1024x256.Idx, (iblk m hO c 6 t : S1x1024x256.Idx → Elt F .f32) y = iblk m hO c 6 u y := by
    intro y; idx_vars y; exact (blk6 m hO c t _ _ _).trans ((congrArg (fun e => (m ((c : Thread nD τ).loc main_arg3) : S32x1024x256.Idx → Elt F .f32) (ix3 (exp32 e) _ _)) h).trans (blk6 m hO c u _ _ _).symm)
  exact funext e

theorem blk7 (hO : Fits m) (c : Dev nD) (t : Fin (cfgM m hO).N) (z : Fin 1) (p : Fin 256) (q : Fin 1024) :
    iblk m hO c 7 t (ix3 z p q) = (m ((c : Thread nD τ).loc main_arg4) : S32x256x1024.Idx → Elt F .f32) (ix3 (exp32 (expB m (pt t))) p q) := by
  have hlt : (expB m (pt t)).toNat < 32 := by
    obtain ⟨h, -⟩ := hO.2.2.2.2.2 (grid0.coords t)
    have h0 : ((wordAt (F := F) (grid0.coords t) (tbl m 1)).toNat + 1) * 1 ≤ 32 := h 0
    rw [word_B] at h0; omega
  show V m c main_arg4 ((((cfgM m hO).win 7).rect t).emb (ix3 z p q)) = _
  rw [V_arg4]
  refine congrArg (m ((c : Thread nD τ).loc main_arg4) : S32x256x1024.Idx → Elt F .f32) (funext fun (a : Fin 3) => Fin.ext ?_)
  refine (Window.rect_emb_val ((cfgM m hO).win 7) t _ a).trans ?_
  fin_cases a
  · show (wordAt (F := F) (grid0.coords t) (tbl m 1)).toNat * 1 + z.val = (expB m (pt t)).toNat % 32
    rw [word_B, Nat.mod_eq_of_lt hlt]; omega
  · show 0 * 256 + p.val = p.val; omega
  · show 0 * 1024 + q.val = q.val; omega

theorem blk7_congr (hO : Fits m) (c : Dev nD) (t u : Fin (cfgM m hO).N) (h : expB m (pt t) = expB m (pt u)) :
    (iblk m hO c 7 t : S1x256x1024.Idx → Elt F .f32) = iblk m hO c 7 u := by
  have e : ∀ y : S1x256x1024.Idx, (iblk m hO c 7 t : S1x256x1024.Idx → Elt F .f32) y = iblk m hO c 7 u y := by
    intro y; idx_vars y; exact (blk7 m hO c t _ _ _).trans ((congrArg (fun e => (m ((c : Thread nD τ).loc main_arg4) : S32x256x1024.Idx → Elt F .f32) (ix3 (exp32 e) _ _)) h).trans (blk7 m hO c u _ _ _).symm)
  exact funext e

end Cert.KernelIdeal.Experts

end
-- ==== Proof.Run.lean ====
/- The whole run of the expert call: what is kept in the scratch between tiles, the body at every tile, and what the pipeline
   is told of it. -/
module

public import proofs.«01_k».proof.Proof.Tables

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch keeps -/

/-- After a used tile the scratch holds the casts of the tile's experts' weights. -/
def Kept (hO : Fits m) (c : Dev nD) (n : ℕ) (d0 : Vec F S1024x256 .bf16) (d1 : Vec F S1024x256 .bf16) (d2 : Vec F S256x1024 .bf16) (d3 : Vec F S1024x256 .bf16) (d4 : Vec F S1024x256 .bf16) (d5 : Vec F S256x1024 .bf16) : Prop :=
  ∀ t : Fin (cfgM m hO).N, n = t.val + 1 → Live m (pt t) →
    d0 = k0_pay1 (iblk m hO c 2 t) ∧ d1 = k0_pay2 (iblk m hO c 3 t) ∧ d2 = k0_pay3 (iblk m hO c 4 t) ∧ d3 = k0_pay4 (iblk m hO c 5 t) ∧ d4 = k0_pay5 (iblk m hO c 6 t) ∧ d5 = k0_pay6 (iblk m hO c 7 t)

theorem kept_0 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 2)) then k0_pay1 (iblk m hO c 2 t) else d0) = k0_pay1 (iblk m hO c 2 t) := by
  by_cases hf : Fresh (wordAt (F := F) (grid0.coords t) (tbl m 2))
  · rw [if_pos hf]
  · rw [if_neg hf]
    obtain ⟨h0, he⟩ := keeps_A m t hl hf
    have hk := h ⟨t.val - 1, lt_of_le_of_lt (Nat.sub_le _ _) t.isLt⟩ (by show t.val = t.val - 1 + 1; omega) (live_mono m (by show t.val - 1 ≤ t.val; omega) hl)
    exact hk.1.trans (congrArg k0_pay1 (blk2_congr m hO c _ t he.symm))
theorem kept_1 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 2)) then k0_pay2 (iblk m hO c 3 t) else d1) = k0_pay2 (iblk m hO c 3 t) := by
  by_cases hf : Fresh (wordAt (F := F) (grid0.coords t) (tbl m 2))
  · rw [if_pos hf]
  · rw [if_neg hf]
    obtain ⟨h0, he⟩ := keeps_A m t hl hf
    have hk := h ⟨t.val - 1, lt_of_le_of_lt (Nat.sub_le _ _) t.isLt⟩ (by show t.val = t.val - 1 + 1; omega) (live_mono m (by show t.val - 1 ≤ t.val; omega) hl)
    exact hk.2.1.trans (congrArg k0_pay2 (blk3_congr m hO c _ t he.symm))
theorem kept_2 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 2)) then k0_pay3 (iblk m hO c 4 t) else d2) = k0_pay3 (iblk m hO c 4 t) := by
  by_cases hf : Fresh (wordAt (F := F) (grid0.coords t) (tbl m 2))
  · rw [if_pos hf]
  · rw [if_neg hf]
    obtain ⟨h0, he⟩ := keeps_A m t hl hf
    have hk := h ⟨t.val - 1, lt_of_le_of_lt (Nat.sub_le _ _) t.isLt⟩ (by show t.val = t.val - 1 + 1; omega) (live_mono m (by show t.val - 1 ≤ t.val; omega) hl)
    exact hk.2.2.1.trans (congrArg k0_pay3 (blk4_congr m hO c _ t he.symm))
theorem kept_3 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 3)) then k0_pay4 (iblk m hO c 5 t) else d3) = k0_pay4 (iblk m hO c 5 t) := by
  by_cases hf : Fresh (wordAt (F := F) (grid0.coords t) (tbl m 3))
  · rw [if_pos hf]
  · rw [if_neg hf]
    obtain ⟨h0, he⟩ := keeps_B m t hl hf
    have hk := h ⟨t.val - 1, lt_of_le_of_lt (Nat.sub_le _ _) t.isLt⟩ (by show t.val = t.val - 1 + 1; omega) (live_mono m (by show t.val - 1 ≤ t.val; omega) hl)
    exact hk.2.2.2.1.trans (congrArg k0_pay4 (blk5_congr m hO c _ t he.symm))
theorem kept_4 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 3)) then k0_pay5 (iblk m hO c 6 t) else d4) = k0_pay5 (iblk m hO c 6 t) := by
  by_cases hf : Fresh (wordAt (F := F) (grid0.coords t) (tbl m 3))
  · rw [if_pos hf]
  · rw [if_neg hf]
    obtain ⟨h0, he⟩ := keeps_B m t hl hf
    have hk := h ⟨t.val - 1, lt_of_le_of_lt (Nat.sub_le _ _) t.isLt⟩ (by show t.val = t.val - 1 + 1; omega) (live_mono m (by show t.val - 1 ≤ t.val; omega) hl)
    exact hk.2.2.2.2.1.trans (congrArg k0_pay5 (blk6_congr m hO c _ t he.symm))
theorem kept_5 (hO : Fits m) (c : Dev nD) (t : Fin (cfgM m hO).N) (d0 : Vec F S1024x256 .bf16) (d1 : Vec F S1024x256 .bf16) (d2 : Vec F S256x1024 .bf16) (d3 : Vec F S1024x256 .bf16) (d4 : Vec F S1024x256 .bf16) (d5 : Vec F S256x1024 .bf16) (h : Kept m hO c t.val d0 d1 d2 d3 d4 d5) (hl : Live m (pt t)) :
    (if Fresh (wordAt (F := F) (grid0.coords t) (tbl m 3)) then k0_pay6 (iblk m hO c 7 t) else d5) = k0_pay6 (iblk m hO c 7 t) := by
  by_cases hf : Fresh (wordAt (F := F) (grid0.coords t) (tbl m 3))
  · rw [if_pos hf]
  · rw [if_neg hf]
    obtain ⟨h0, he⟩ := keeps_B m t hl hf
    have hk := h ⟨t.val - 1, lt_of_le_of_lt (Nat.sub_le _ _) t.isLt⟩ (by show t.val = t.val - 1 + 1; omega) (live_mono m (by show t.val - 1 ≤ t.val; omega) hl)
    exact hk.2.2.2.2.2.trans (congrArg k0_pay6 (blk7_congr m hO c _ t he.symm))

/-- What the scratch holds before the tile of position `n`, with the generator's register and the tables. -/
def PhiS (hO : Fits m) (c : Dev nD) (n : ℕ) (_ : n ≤ (cfgM m hO).N) : sProp 𝕄 :=
  iprop((∃ d0, ∃ d1, ∃ d2, ∃ d3, ∃ d4, ∃ d5, ⌜Kept m hO c n d0 d1 d2 d3 d4 d5⌝ ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5)
    ∗ (∃ r, prngReg c r) ∗ Pipeline.ΦT pre0 (tbl m) c)

/-- Tile `t`'s output block. -/
def outAt (hO : Fits m) (c : Dev nD) (t : Fin (cfgM m hO).N) : Vec F S256x1024 .f32 :=
  if k0_cond3 (grid0.coords t) (usedW (F := F) (tbl m 4)) = 1#1 then
    tileOut (iblk m hO c 0 t) (iblk m hO c 1 t) (k0_pay1 (iblk m hO c 2 t)) (k0_pay2 (iblk m hO c 3 t)) (k0_pay3 (iblk m hO c 4 t)) (k0_pay4 (iblk m hO c 5 t)) (k0_pay5 (iblk m hO c 6 t)) (k0_pay6 (iblk m hO c 7 t))
  else k0_pay8

/-- The pipeline's data on core `c`. -/
def dats (hO : Fits m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
  Φ t := PhiS m hO c t.val (Nat.le_of_lt_succ t.isLt)
  q w := Pipeline.shareOf spec0 w
  owed _ := 0

theorem A_eq (hO : Fits m) (c : Dev nD) (w : Fin (cfgM m hO).W) : (dats m hO 0 c).A w = V m c (Pipeline.arrRef spec0 w) := by
  dsimp only [dats]
theorem PhiS_castSucc (hO : Fits m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after_0 (hO : Fits m) (c : Dev nD) (t : Fin (cfgM m hO).N) : (dats m hO 0 c).after 0 t = iblk m hO c 0 t := by dsimp only [dats]; try rfl
theorem found_0 (hO : Fits m) (c : Dev nD) (t : Fin (cfgM m hO).N) (d) : (dats m hO 0 c).before 0 t d = iblk m hO c 0 t :=
  before_0 m hO (dats m hO 0 c) (A_eq m hO c 0) (after_0 m hO c) t d
theorem after_1 (hO : Fits m) (c : Dev nD) (t : Fin (cfgM m hO).N) : (dats m hO 0 c).after 1 t = iblk m hO c 1 t := by dsimp only [dats]; try rfl
theorem found_1 (hO : Fits m) (c : Dev nD) (t : Fin (cfgM m hO).N) (d) : (dats m hO 0 c).before 1 t d = iblk m hO c 1 t :=
  before_1 m hO (dats m hO 0 c) (A_eq m hO c 1) (after_1 m hO c) t d
theorem after_2 (hO : Fits m) (c : Dev nD) (t : Fin (cfgM m hO).N) : (dats m hO 0 c).after 2 t = iblk m hO c 2 t := by dsimp only [dats]; try rfl
theorem found_2 (hO : Fits m) (c : Dev nD) (t : Fin (cfgM m hO).N) (d) : (dats m hO 0 c).before 2 t d = iblk m hO c 2 t :=
  before_2 m hO (dats m hO 0 c) (A_eq m hO c 2) (after_2 m hO c) t d
theorem after_3 (hO : Fits m) (c : Dev nD) (t : Fin (cfgM m hO).N) : (dats m hO 0 c).after 3 t = iblk m hO c 3 t := by dsimp only [dats]; try rfl
theorem found_3 (hO : Fits m) (c : Dev nD) (t : Fin (cfgM m hO).N) (d) : (dats m hO 0 c).before 3 t d = iblk m hO c 3 t :=
  before_3 m hO (dats m hO 0 c) (A_eq m hO c 3) (after_3 m hO c) t d
theorem after_4 (hO : Fits m) (c : Dev nD) (t : Fin (cfgM m hO).N) : (dats m hO 0 c).after 4 t = iblk m hO c 4 t := by dsimp only [dats]; try rfl
theorem found_4 (hO : Fits m) (c : Dev nD) (t : Fin (cfgM m hO).N) (d) : (dats m hO 0 c).before 4 t d = iblk m hO c 4 t :=
  before_4 m hO (dats m hO 0 c) (A_eq m hO c 4) (after_4 m hO c) t d
theorem after_5 (hO : Fits m) (c : Dev nD) (t : Fin (cfgM m hO).N) : (dats m hO 0 c).after 5 t = iblk m hO c 5 t := by dsimp only [dats]; try rfl
theorem found_5 (hO : Fits m) (c : Dev nD) (t : Fin (cfgM m hO).N) (d) : (dats m hO 0 c).before 5 t d = iblk m hO c 5 t :=
  before_5 m hO (dats m hO 0 c) (A_eq m hO c 5) (after_5 m hO c) t d
theorem after_6 (hO : Fits m) (c : Dev nD) (t : Fin (cfgM m hO).N) : (dats m hO 0 c).after 6 t = iblk m hO c 6 t := by dsimp only [dats]; try rfl
theorem found_6 (hO : Fits m) (c : Dev nD) (t : Fin (cfgM m hO).N) (d) : (dats m hO 0 c).before 6 t d = iblk m hO c 6 t :=
  before_6 m hO (dats m hO 0 c) (A_eq m hO c 6) (after_6 m hO c) t d
theorem after_7 (hO : Fits m) (c : Dev nD) (t : Fin (cfgM m hO).N) : (dats m hO 0 c).after 7 t = iblk m hO c 7 t := by dsimp only [dats]; try rfl
theorem found_7 (hO : Fits m) (c : Dev nD) (t : Fin (cfgM m hO).N) (d) : (dats m hO 0 c).before 7 t d = iblk m hO c 7 t :=
  before_7 m hO (dats m hO 0 c) (A_eq m hO c 7) (after_7 m hO c) t d
theorem after_8 (hO : Fits m) (c : Dev nD) (t : Fin (cfgM m hO).N) : (dats m hO 0 c).after 8 t = outAt m hO c t := by dsimp only [dats]; try rfl
theorem runs_some (i : grid0.Coords) (w : BitVec 32) : (!(k0_cond3 i w == 1#1) && !(k0_cond4 i w == 1#1)) = false := by
  by_cases h : k0_cond3 i w = 1#1
  · rw [beq_iff_eq.mpr h, Bool.not_true, Bool.false_and]
  · rw [beq_iff_eq.mpr ((dead_iff i w).mpr h), Bool.not_true, Bool.and_false]
theorem idle_eq (a : (pcfg0 (F := F)).Adm) : (cfg0 a).idle = idle0 a.1 := rfl
theorem idle0_all (a : (pcfg0 (F := F)).Adm) (w : Fin 9) (i : grid0.Coords) : idle0 a.1 w i = false := by
  fin_cases w
  · rfl
  · rfl
  · rfl
  · rfl
  · rfl
  · rfl
  · rfl
  · rfl
  · exact runs_some i (a.1.atD 4 ![0])
/-- Every tile leaves something in every window: the output block is written on an unused tile too. -/
theorem live_all (a : (pcfg0 (F := F)).Adm) (w : Fin 9) (i : grid0.Coords) : (cfg0 a).idle w i = false :=
  (congrFun (congrFun (idle_eq a) w) i).trans (idle0_all a w i)

/-! ## The body at a tile -/

def bodyPre (hO : Fits m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))
def bodyPost (hO : Fits m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t)
    ∗ owns (c : Thread nD τ) (ms8 m hO t) fullShare ((dats m hO 0 c).after 8 t))

set_option maxHeartbeats 4000000 in
theorem sound_body (hO : Fits m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [found_0, found_1, found_2, found_3, found_4, found_5, found_6, found_7]
  rw [show (dats m hO 0 c).owesAt () t.succ = (dats m hO 0 c).owesAt () t.castSucc from rfl,
    show (dats m hO 0 c).Φ t.succ = PhiS m hO c (t.val + 1) t.isLt from rfl, PhiS_castSucc, after_0, after_1, after_2, after_3, after_4, after_5, after_6, after_7, after_8]
  unfold PhiS
  rw [PhiT_eq]
  iintro ⟨⟨⟨%d0, %d1, %d2, %d3, %d4, %d5, %hk, S0, S1, S2, S3, S4, S5⟩, Hg, T0, T1, T2, T3, T4⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [T0]; · iexact T0
  isplitl [T1]; · iexact T1
  isplitl [T2]; · iexact T2
  isplitl [T3]; · iexact T3
  isplitl [T4]; · iexact T4
  iintro ⟨H0, H1, H2, H3, H4, H5, H6, H7, H8, S0, S1, S2, S3, S4, S5, T0, T1, T2, T3, T4⟩
  isplitl [S0 S1 S2 S3 S4 S5 Hg T0 T1 T2 T3 T4]
  · isplitl [S0 S1 S2 S3 S4 S5]
    · iexists _; iexists _; iexists _; iexists _; iexists _; iexists _
      isplitr; swap
      · isplitl [S0]; · iexact S0
        isplitl [S1]; · iexact S1
        isplitl [S2]; · iexact S2
        isplitl [S3]; · iexact S3
        isplitl [S4]; · iexact S4
        iexact S5
      ipureintro
      intro u hu hl
      obtain rfl : t = u := Fin.ext (Nat.succ.inj hu)
      exact ⟨kept_0 m hO c t d0 d1 d2 d3 d4 d5 hk hl, kept_1 m hO c t d0 d1 d2 d3 d4 d5 hk hl, kept_2 m hO c t d0 d1 d2 d3 d4 d5 hk hl, kept_3 m hO c t d0 d1 d2 d3 d4 d5 hk hl, kept_4 m hO c t d0 d1 d2 d3 d4 d5 hk hl, kept_5 m hO c t d0 d1 d2 d3 d4 d5 hk hl⟩
    isplitl [Hg]; · iexact Hg
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have hout : outAt m hO c t = (if k0_cond3 (grid0.coords t) (usedW (F := F) (tbl m 4)) = 1#1 then
      tileOut (iblk m hO c 0 t) (iblk m hO c 1 t) (if Fresh (wordAt (F := F) (grid0.coords t) (tbl m 2)) then k0_pay1 (iblk m hO c 2 t) else d0) (if Fresh (wordAt (F := F) (grid0.coords t) (tbl m 2)) then k0_pay2 (iblk m hO c 3 t) else d1) (if Fresh (wordAt (F := F) (grid0.coords t) (tbl m 2)) then k0_pay3 (iblk m hO c 4 t) else d2) (if Fresh (wordAt (F := F) (grid0.coords t) (tbl m 3)) then k0_pay4 (iblk m hO c 5 t) else d3) (if Fresh (wordAt (F := F) (grid0.coords t) (tbl m 3)) then k0_pay5 (iblk m hO c 6 t) else d4) (if Fresh (wordAt (F := F) (grid0.coords t) (tbl m 3)) then k0_pay6 (iblk m hO c 7 t) else d5)
    else k0_pay8) := by
    unfold outAt
    by_cases h3 : k0_cond3 (grid0.coords t) (usedW (F := F) (tbl m 4)) = 1#1
    · have hl := (live_at m t).mp h3
      rw [if_pos h3, if_pos h3, kept_0 m hO c t d0 d1 d2 d3 d4 d5 hk hl, kept_1 m hO c t d0 d1 d2 d3 d4 d5 hk hl, kept_2 m hO c t d0 d1 d2 d3 d4 d5 hk hl, kept_3 m hO c t d0 d1 d2 d3 d4 d5 hk hl, kept_4 m hO c t d0 d1 d2 d3 d4 d5 hk hl, kept_5 m hO c t d0 d1 d2 d3 d4 d5 hk hl]
    · rw [if_neg h3, if_neg h3]
  rw [hout]
  iexact H8

end Cert.KernelIdeal.Experts

end
-- ==== Proof.Launch.lean ====
/- The whole run of the expert call: the launch, the
   unchanged arguments, and the result array as the tiles' blocks. -/
module

public import proofs.«01_k».proof.Proof.Run

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's obligation from its triple, where every window is left at something at every point. -/
theorem obligation_of {cfg : Pipeline.Cfg sig Λ₀} {c : Dev nD} (dat : Dat τ (Elt F) Unit ℕ (UR sig nD τ) ℕ cfg c) (defs : Defs nD τ sig (Elt F) Λ₀)
    (hl : ∀ w i, cfg.idle w i = false)
    (h : ∀ t : Fin cfg.N, iprop(dat.Φ t.castSucc ∗ dat.owesAt () t.castSucc
        ∗ bigSep Finset.univ fun w : Fin cfg.W => iprop(∃ d, owns c ((cfg.win w).stage (cfg.slots t w)) fullShare (dat.before w t d)))
      ⊢ wp frame (wpE defs Variants.none c none) Set.univ (defs .tc cfg.body (cfg.bodyArgs t (cfg.slots t))) fun _ =>
          iprop(dat.Φ t.succ ∗ dat.owesAt () t.succ
            ∗ bigSep Finset.univ fun w : Fin cfg.W => owns c ((cfg.win w).stage (cfg.slots t w)) fullShare (dat.after w t))) :
    BodyObligation dat defs Variants.none () Set.univ := fun t => by
  have e := h t
  simp only [hl]
  exact e

theorem body_obligation (hO : Fits m) (c : Dev nD) : BodyObligation (dats (F := F) m hO 0 c) (defs₀ (F := F)) Variants.none () Set.univ :=
  obligation_of (dats (F := F) m hO 0 c) _ (live_all (adm m hO)) fun t => by
    rw [bigSep_W0, bigSep_W0, defs₀_row m hO]
    exact triple_restated (sound_body m hO c t) rfl .rfl fun _ => .rfl

/-! ## The launch -/

theorem enters (hO : Fits m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA_eq]
  unfold PhiS
  iintro ⟨⟨⟨⟨%d0, S0⟩, ⟨%d1, S1⟩, ⟨%d2, S2⟩, ⟨%d3, S3⟩, ⟨%d4, S4⟩, ⟨%d5, S5⟩⟩, Hg⟩, Ht⟩
  isplitl [S0 S1 S2 S3 S4 S5]
  · iexists d0; iexists d1; iexists d2; iexists d3; iexists d4; iexists d5
    isplitr; · ipureintro; intro u hu; omega
    isplitl [S0]; · iexact S0
    isplitl [S1]; · iexact S1
    isplitl [S2]; · iexact S2
    isplitl [S3]; · iexact S3
    isplitl [S4]; · iexact S4
    iexact S5
  isplitl [Hg]; · iexact Hg
  iexact Ht

theorem leaves (hO : Fits m) (c : Dev nD) : (dats m hO 0 c).Φ (Fin.last (cfgM m hO).N) ⊢ Pipeline.ΦA spec0 c := by
  rw [show (dats m hO 0 c).Φ (Fin.last (cfgM m hO).N) = PhiS m hO c _ (le_refl _) from rfl, PhiA_eq]
  unfold PhiS
  iintro ⟨⟨%d0, %d1, %d2, %d3, %d4, %d5, -, S0, S1, S2, S3, S4, S5⟩, Hg, -⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- Every run ends, with the arrays at what the blocks make them and every counter at zero. -/
theorem launch (hO : Fits m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := main_enters m Variants.none) (hA := A_eq m hO) (hpf := V_tbl m)
    (hin := enters m hO) (hout := leaves m hO)

/-- The result array at the end: the blocks of the tiles written over what the region found. -/
abbrev resAt (hO : Fits m) (c : Dev nD) : S61440x1024.Idx → Elt F .f32 := (dats m hO 0 c).arrAt 8 (cfgM m hO).N

/-- The run's end: the result array, the unchanged arguments, the counters. -/
theorem run_end (hO : Fits m) : θ_run defs (onTc (τ := τ) (main (F := F))) ⟨m, fun _ => 0, ρ⟩ (fun r => (∀ c : Dev nD,
      r.2.mem ((c.tc : Thread nD τ).loc main_v17) = resAt m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1 c).1 8,
    ((h.1 c).1 0).trans (((dats m hO 0 c).arrAt_in 0 rfl _).trans ((A_eq m hO c 0).trans (V_arg0 m c))),
    ((h.1 c).1 1).trans (((dats m hO 0 c).arrAt_in 1 rfl _).trans ((A_eq m hO c 1).trans (V_arg1 m c))),
    ((h.1 c).1 5).trans (((dats m hO 0 c).arrAt_in 5 rfl _).trans ((A_eq m hO c 5).trans (V_arg2 m c))),
    ((h.1 c).1 6).trans (((dats m hO 0 c).arrAt_in 6 rfl _).trans ((A_eq m hO c 6).trans (V_arg3 m c))),
    ((h.1 c).1 7).trans (((dats m hO 0 c).arrAt_in 7 rfl _).trans ((A_eq m hO c 7).trans (V_arg4 m c))),
    ((h.1 c).2 main_arg5 (by decide : main_arg5 ∈ Pipeline.restRefs sig spec0)).trans (V_arg5 m c),
    ((h.1 c).2 main_arg6 (by decide : main_arg6 ∈ Pipeline.restRefs sig spec0)).trans (V_arg6 m c),
    ((h.1 c).2 main_arg7 (by decide : main_arg7 ∈ Pipeline.restRefs sig spec0)).trans (V_arg7 m c)⟩, h.2⟩) (launch m ρ hO)

/-- The same without the result. -/
theorem frame_end (hO : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_end m ρ hO)

end Cert.KernelIdeal.Experts

end
-- ==== Proof.Pre.lean ====
/- What the two preconditions say: every table word names one of the 32 experts; and, for the values, every gate is finite
   and not negative. -/
module

public import proofs.«01_k».proof.Proof.Launch
public import proofs.«01_k».proof.Proof.Gen.Pre_listed
public import proofs.«01_k».proof.Proof.Gen.Pre_routed
public import Idealize.ShloMosaic.Lib.ReduceAll

@[expose] public section

set_option maxRecDepth 16384

noncomputable section

namespace Cert.KernelIdeal.Experts

open Idealize.ShloMosaic Idealize.ShloMosaic.TcCoe Idealize.ShloMosaic.Tactic
open Idealize.ShloMosaic.Rounds
open Idealize.ShloMosaic.WordCmp
open Idealize.ShloMosaic.Pointwise
open Cert.KernelIdeal.Gen

/-- The gate columns of the packed rows. -/
abbrev gates {F : FTy → Type} [FloatOps F] (x : FVec F S61440x1152 .f32) : FVec F Cert.Pre_routed.S61440x2 .f32 :=
  extractStridedSlice Cert.Pre_routed.S61440x2 ![0, 1026] x Cert.Pre_routed.Facts.slices_S61440x1152_S61440x2_0_1026

theorem word_lt (x : BitVec 32) (h0 : IntOp.cmpi .sge x 0#32 = 1#1) (h1 : IntOp.cmpi .slt x 32#32 = 1#1) : x.toNat < 32 := by
  rw [cmpi_sge_zero, ofBool_decide_eq_one_iff] at h0
  rw [cmpi_slt_eq, ofBool_decide_eq_one_iff, toInt_eq_toNat_of_lt_half h0] at h1
  have : (32#32 : BitVec 32).toInt = 32 := by decide
  omega

/-- The frames' precondition: the words of the two tables. -/
theorem listed_parts {F : FTy → Type} [FloatOps F] (a0 : FVec F S61440x1152 .f32) (a1 : FVec F S1x1024 .f32) (a2 a3 : FVec F S32x1024x256 .f32)
    (a4 : FVec F S32x256x1024 .f32) (a5 a6 : IVec S240 32) (a7 : IVec S1 32)
    (h : Cert.Pre_listed.fn (F := F) a0 a1 a2 a3 a4 a5 a6 a7 = fun _ => 1#1) :
    (∀ y, (a5 y).toNat < 32) ∧ (∀ y, (a6 y).toNat < 32) := by
  haveI : Subsingleton Cert.Pre_listed.S_.Idx := ⟨fun a b => funext fun i => i.elim0⟩
  have e := congrFun h (fun i => i.elim0)
  unfold Cert.Pre_listed.fn at e
  simp only [andi_at] at e
  obtain ⟨e, e4⟩ := IntOp.andi_eq_one.1 e
  obtain ⟨e, e3⟩ := IntOp.andi_eq_one.1 e
  obtain ⟨e1, e2⟩ := IntOp.andi_eq_one.1 e
  have g1 := Host.reduce_andi_all _ _ _ _ _ e1
  have g2 := Host.reduce_andi_all _ _ _ _ _ e2
  have g3 := Host.reduce_andi_all _ _ _ _ _ e3
  have g4 := Host.reduce_andi_all _ _ _ _ _ e4
  exact ⟨fun y => word_lt _ (g1 y) (g2 y), fun y => word_lt _ (g3 y) (g4 y)⟩

/-- The values' precondition, conjunct by conjunct. -/
theorem pre_parts {F : FTy → Type} [FloatOps F] (a0 : FVec F S61440x1152 .f32) (a1 : FVec F S1x1024 .f32) (a2 a3 : FVec F S32x1024x256 .f32)
    (a4 : FVec F S32x256x1024 .f32) (a5 a6 : IVec S240 32) (a7 : IVec S1 32)
    (h : Cert.Pre_routed.fn (F := F) a0 a1 a2 a3 a4 a5 a6 a7 = fun _ => 1#1) :
    (∀ y, (a5 y).toNat < 32) ∧ (∀ y, (a6 y).toNat < 32)
      ∧ (∀ y, FloatOps.cmpf .oge (gates a0 y) (FloatOps.ofBits .f32 0x00000000#32 : F .f32) = 1#1)
      ∧ (∀ y, FloatOps.cmpf .olt (gates a0 y) (FloatOps.ofBits .f32 0x7F800000#32 : F .f32) = 1#1) := by
  haveI : Subsingleton Cert.Pre_routed.S_.Idx := ⟨fun a b => funext fun i => i.elim0⟩
  have e := congrFun h (fun i => i.elim0)
  unfold Cert.Pre_routed.fn Cert.Pre_routed.fn_part1 at e
  simp only [andi_at] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have g1 := Host.reduce_andi_all _ _ _ _ _ e1
  have g2 := Host.reduce_andi_all _ _ _ _ _ e2
  have g3 := Host.reduce_andi_all _ _ _ _ _ e3
  have g4 := Host.reduce_andi_all _ _ _ _ _ e4
  have g5 := Host.reduce_andi_all _ _ _ _ _ e5
  have g6 := Host.reduce_andi_all _ _ _ _ _ e6
  exact ⟨fun y => word_lt _ (g1 y) (g2 y), fun y => word_lt _ (g3 y) (g4 y), fun y => g5 y, fun y => g6 y⟩

section
variable {F : FTy → Type} [FloatOps F]
variable (m : (ℓ : Loc nD τ sig) → Buf (Elt F) ℓ)

/-- Where every table word is below 32 every expert's block is inside its array. -/
theorem fits_of (hA : ∀ y : S240.Idx, ((m (((0 : Dev nD) : Thread nD τ).loc main_arg5) : S240.Idx → Elt F .i32) y).toNat < 32)
    (hB : ∀ y : S240.Idx, ((m (((0 : Dev nD) : Thread nD τ).loc main_arg6) : S240.Idx → Elt F .i32) y).toNat < 32) : Fits m := by
  have kA : ∀ i : grid0.Coords, (wordAt (F := F) i (tbl m 0)).toNat < 32 := fun i =>
    (congrArg BitVec.toNat ((wordAt_eq i (tbl m 0)).trans (congrFun (V_arg5 m 0) _))).trans_lt (hA _)
  have kB : ∀ i : grid0.Coords, (wordAt (F := F) i (tbl m 1)).toNat < 32 := fun i =>
    (congrArg BitVec.toNat ((wordAt_eq i (tbl m 1)).trans (congrFun (V_arg6 m 0) _))).trans_lt (hB _)
  refine ⟨fun i => ⟨fun (a : Fin 3) => ?_, Or.inl rfl⟩, fun i => ⟨fun (a : Fin 3) => ?_, Or.inl rfl⟩, fun i => ⟨fun (a : Fin 3) => ?_, Or.inl rfl⟩,
    fun i => ⟨fun (a : Fin 3) => ?_, Or.inl rfl⟩, fun i => ⟨fun (a : Fin 3) => ?_, Or.inl rfl⟩, fun i => ⟨fun (a : Fin 3) => ?_, Or.inl rfl⟩⟩
  · fin_cases a
    · have h := kA i; show ((wordAt (F := F) i (tbl m 0)).toNat + 1) * 1 ≤ 32; omega
    · show (0 + 1) * 1024 ≤ 1024; omega
    · show (0 + 1) * 256 ≤ 256; omega
  · fin_cases a
    · have h := kA i; show ((wordAt (F := F) i (tbl m 0)).toNat + 1) * 1 ≤ 32; omega
    · show (0 + 1) * 1024 ≤ 1024; omega
    · show (0 + 1) * 256 ≤ 256; omega
  · fin_cases a
    · have h := kA i; show ((wordAt (F := F) i (tbl m 0)).toNat + 1) * 1 ≤ 32; omega
    · show (0 + 1) * 256 ≤ 256; omega
    · show (0 + 1) * 1024 ≤ 1024; omega
  · fin_cases a
    · have h := kB i; show ((wordAt (F := F) i (tbl m 1)).toNat + 1) * 1 ≤ 32; omega
    · show (0 + 1) * 1024 ≤ 1024; omega
    · show (0 + 1) * 256 ≤ 256; omega
  · fin_cases a
    · have h := kB i; show ((wordAt (F := F) i (tbl m 1)).toNat + 1) * 1 ≤ 32; omega
    · show (0 + 1) * 1024 ≤ 1024; omega
    · show (0 + 1) * 256 ≤ 256; omega
  · fin_cases a
    · have h := kB i; show ((wordAt (F := F) i (tbl m 1)).toNat + 1) * 1 ≤ 32; omega
    · show (0 + 1) * 256 ≤ 256; omega
    · show (0 + 1) * 1024 ≤ 1024; omega
end

end Cert.KernelIdeal.Experts

end
-- ==== Proof.Words.lean ====
/- The kernel at the machine's words. The two texts of the kernel are one text under two names, so that its run at any float
   values is its run at the words. -/
module

public import proofs.«01_k».proof.Defs
public import proofs.«01_k».proof.Proof.Gen.Kernel
public import proofs.«01_k».proof.Proof.Pre

@[expose] public section

set_option maxRecDepth 16384

noncomputable section

namespace Cert.Proof

open Idealize.ShloMosaic Idealize.SL.Sem Cert.Kernel

theorem fits_bits (m : (ℓ : Loc Cert.Kernel.nD Cert.Kernel.τ Cert.Kernel.sig) → Buf (Elt Bits) ℓ) (h : Cert.Pre_Kernel m) :
    Cert.KernelIdeal.Experts.Fits (F := Bits) m :=
  have e := Cert.KernelIdeal.Experts.listed_parts (F := Bits) _ _ _ _ _ _ _ _ (h 0)
  Cert.KernelIdeal.Experts.fits_of m e.1 e.2

set_option maxHeartbeats 8000000 in
set_option smartUnfolding false in
/-- What holds of the runs of the one text holds of the runs of the other: the option lets the elaborator unfold both. -/
theorem of_ideal {s : MemSt nD τ sig (Elt Bits)} {Q : PUnit × MemSt nD τ sig (Elt Bits) → Prop}
    (h : θ_run (Cert.KernelIdeal.defs (F := Bits)) (onTc (τ := τ) (Cert.KernelIdeal.main (F := Bits))) s Q) :
    θ_run (defs (F := Bits)) (onTc (τ := τ) (main (F := Bits))) s Q := h

theorem frame_kernel : Cert.quiescent_Kernel := fun m g h =>
  of_ideal (Cert.KernelIdeal.Experts.frame_end (F := Bits) m g (fits_bits m h))

end Cert.Proof

end
-- ==== Proof.Mix.lean ====
/- One row of the expert call over the extended reals: the value of an expert on a row, the sigmoid in its two forms, and
   the sum over all experts with the two gates as the two chosen experts' values. -/
module

public import Idealize.ShloMosaic.PureOps.Ideal
public import Idealize.ShloMosaic.PureOps.Ideal.Laws
public import Idealize.ShloMosaic.Lib.IdealHost

@[expose] public section

noncomputable section

namespace Cert.Mix

open Idealize.ShloMosaic

/-! ## The sigmoid -/

theorem half_eq : Ideal.ofBits .f32 0x3F000000#32 = (((1 : ℝ) / 2 : ℝ) : EReal) := by
  simp [Ideal.ofBits, Ideal.ieee, -EReal.coe_mul]; norm_num

theorem half_tanh_real (r : ℝ) : 1 / 2 + 1 / 2 * Real.tanh (1 / 2 * r) = 1 / (1 + Real.exp (-r)) := by
  rw [Real.tanh_eq_sinh_div_cosh, Real.sinh_eq, Real.cosh_eq]
  have e : Real.exp (-r) = Real.exp (-(1 / 2 * r)) * Real.exp (-(1 / 2 * r)) := by rw [← Real.exp_add]; ring_nf
  have p : Real.exp (1 / 2 * r) * Real.exp (-(1 / 2 * r)) = 1 := by rw [← Real.exp_add]; simp
  rw [e]
  generalize Real.exp (1 / 2 * r) = a at *
  generalize hb : Real.exp (-(1 / 2 * r)) = b at *
  have hb0 : 0 < b := by rw [← hb]; exact Real.exp_pos _
  have ha0 : 0 < a := by
    rcases lt_or_ge 0 a with h | h
    · exact h
    · nlinarith
  field_simp
  nlinarith

/-- The sigmoid by the hyperbolic tangent is the sigmoid, at every extended real. -/
theorem half_tanh (x : EReal) : Ideal.ofBits .f32 0x3F000000#32 + Ideal.ofBits .f32 0x3F000000#32 * Ideal.tanh (Ideal.ofBits .f32 0x3F000000#32 * x)
    = Ideal.div 1 (1 + Ideal.exp (-x)) := by
  have h2 : (0 : ℝ) < 1 / 2 := by norm_num
  rw [half_eq]
  induction x using EReal.rec with
  | bot =>
    rw [EReal.coe_mul_bot_of_pos h2, Ideal.tanh_bot, EReal.neg_bot, Ideal.exp_top]
    rw [show (1 : EReal) + ⊤ = ⊤ from EReal.add_top_of_ne_bot (by decide), Ideal.div, if_neg (by decide), EReal.inv_top, mul_zero]
    rw [show (-1 : EReal) = ((-1 : ℝ) : EReal) from rfl, ← EReal.coe_mul, ← EReal.coe_add]
    norm_num
  | top =>
    rw [EReal.coe_mul_top_of_pos h2, Ideal.tanh_top, EReal.neg_top, Ideal.exp_bot, add_zero, mul_one]
    rw [show (1 : EReal) = ((1 : ℝ) : EReal) by norm_cast, Ideal.div_coe one_ne_zero, ← EReal.coe_mul, ← EReal.coe_add]
    norm_num
  | coe r =>
    rw [← EReal.coe_mul, Ideal.tanh_coe, ← EReal.coe_neg, Ideal.exp_coe, show (1 : EReal) = ((1 : ℝ) : EReal) by norm_cast, ← EReal.coe_mul,
      ← EReal.coe_add, ← EReal.coe_add, Ideal.div_coe (by positivity), ← EReal.coe_mul, half_tanh_real, one_mul]

/-! ## One expert on one row -/

abbrev Row := Fin 1024 → EReal
abbrev Up := Fin 1024 → Fin 256 → EReal
abbrev Down := Fin 256 → Fin 1024 → EReal

/-- The row's normalised entry. -/
def normed (x g : Row) (d : Fin 1024) : EReal :=
  x d * Ideal.rsqrt (Ideal.div (∑ k : Fin 1024, x k * x k) (Ideal.ofBits .f32 0x44800000#32) + Ideal.ofBits .f32 0x358637BD#32) * g d

def proj (x g : Row) (w : Up) (f : Fin 256) : EReal := ∑ d : Fin 1024, normed x g d * w d f

/-- The hidden unit `f` of an expert. -/
def hidden (x g : Row) (w1 w3 : Up) (f : Fin 256) : EReal :=
  proj x g w1 f * Ideal.div 1 (1 + Ideal.exp (-(proj x g w1 f))) * proj x g w3 f

def expert (x g : Row) (w1 w3 : Up) (w2 : Down) (k : Fin 1024) : EReal := ∑ f : Fin 256, hidden x g w1 w3 f * w2 f k

/-! ## The sum over the experts -/

theorem mul_sum_of {ι : Type} (g : EReal) (h0 : 0 ≤ g) (ht : g ≠ ⊤) (s : Finset ι) (f : ι → EReal) : ∑ i ∈ s, g * f i = g * ∑ i ∈ s, f i := by
  classical
  induction s using Finset.induction with
  | empty => simp
  | insert a s ha ih => rw [Finset.sum_insert ha, Finset.sum_insert ha, ih, EReal.left_distrib_of_nonneg_of_ne_top h0 ht]

/-- The weight of expert `e` in a row: the gates of the choices that name it. -/
def weight (ga gb : EReal) (A B e : Fin 32) : EReal := ga * (if A = e then 1 else 0) + gb * (if B = e then 1 else 0)

theorem part_nonneg {g : EReal} (h : 0 ≤ g) (A e : Fin 32) : 0 ≤ g * (if A = e then (1 : EReal) else 0) := by
  split <;> simp [h]

theorem part_ne_top {g : EReal} (h : g ≠ ⊤) (A e : Fin 32) : g * (if A = e then (1 : EReal) else 0) ≠ ⊤ := by
  split <;> simp [h]

theorem weighted_one {g : EReal} (A : Fin 32) (Y : Fin 32 → EReal) : ∑ e : Fin 32, g * (if A = e then (1 : EReal) else 0) * Y e = g * Y A := by
  rw [Finset.sum_eq_single A]
  · simp
  · intro e _ he; simp [Ne.symm he]
  · intro h; exact absurd (Finset.mem_univ _) h

theorem weighted (ga gb : EReal) (ha : 0 ≤ ga) (hb : 0 ≤ gb) (A B : Fin 32) (Y : Fin 32 → EReal) :
    ∑ e : Fin 32, weight ga gb A B e * Y e = ga * Y A + gb * Y B := by
  rw [← weighted_one A Y, ← weighted_one B Y, ← Finset.sum_add_distrib]
  exact Finset.sum_congr rfl fun e _ => EReal.right_distrib_of_nonneg (part_nonneg ha A e) (part_nonneg hb B e)

theorem weight_nonneg {ga gb : EReal} (ha : 0 ≤ ga) (hb : 0 ≤ gb) (A B e : Fin 32) : 0 ≤ weight ga gb A B e :=
  add_nonneg (part_nonneg ha A e) (part_nonneg hb B e)

theorem weight_ne_top {ga gb : EReal} (ha : ga ≠ ⊤) (hb : gb ≠ ⊤) (A B e : Fin 32) : weight ga gb A B e ≠ ⊤ :=
  EReal.add_ne_top (part_ne_top ha A e) (part_ne_top hb B e)

/-- Expert `e`'s place in the group `i`. -/
abbrev member (i : Fin 4) (e : Fin 8) : Fin 32 := ⟨i.val * 8 + e.val, by omega⟩

theorem by_groups (Z : Fin 32 → EReal) : ∑ e : Fin 32, Z e = ∑ i : Fin 4, ∑ e : Fin 8, Z (member i e) := by
  rw [← Fintype.sum_prod_type' (f := fun i e => Z (member i e)), ← (finProdFinEquiv (m := 4) (n := 8)).sum_comp]
  refine Finset.sum_congr rfl fun p _ => congrArg Z (Fin.ext ?_)
  simp only [finProdFinEquiv_apply_val]; omega

/-- The gated sum over all experts, group by group, is the two chosen experts' gated values. -/
theorem mixture (x g : Row) (w1 w3 : Fin 32 → Up) (w2 : Fin 32 → Down) (ga gb : EReal) (ha : 0 ≤ ga) (hb : 0 ≤ gb) (hat : ga ≠ ⊤) (hbt : gb ≠ ⊤)
    (A B : Fin 32) (k : Fin 1024) (S : Fin 4 → EReal)
    (hS : ∀ i, S i = ∑ e : Fin 8, ∑ f : Fin 256,
      hidden x g (w1 (member i e)) (w3 (member i e)) f * weight ga gb A B (member i e) * w2 (member i e) f k) :
    x k + ((((0 + S 0) + S 1) + S 2) + S 3)
      = x k + ga * expert x g (w1 A) (w3 A) (w2 A) k + gb * expert x g (w1 B) (w3 B) (w2 B) k := by
  have hZ : ∀ e : Fin 32, ∑ f : Fin 256, hidden x g (w1 e) (w3 e) f * weight ga gb A B e * w2 e f k
      = weight ga gb A B e * expert x g (w1 e) (w3 e) (w2 e) k := fun e => by
    unfold expert
    rw [← mul_sum_of _ (weight_nonneg ha hb A B e) (weight_ne_top hat hbt A B e)]
    refine Finset.sum_congr rfl fun f _ => ?_
    rw [mul_comm (hidden _ _ _ _ _), mul_assoc]
  have h : ∑ i : Fin 4, S i = ga * expert x g (w1 A) (w3 A) (w2 A) k + gb * expert x g (w1 B) (w3 B) (w2 B) k := by
    rw [← weighted ga gb ha hb A B fun e => expert x g (w1 e) (w3 e) (w2 e) k, by_groups]
    exact Finset.sum_congr rfl fun i _ => (hS i).trans (Finset.sum_congr rfl fun e _ => hZ _)
  rw [add_assoc (x k) (ga * _), ← h, Fin.sum_univ_four, zero_add]

end Cert.Mix

end
-- ==== Proof.Tile.lean ====
/- A tile's row over the extended reals: what the kernel's operations compute of one row of a tile is the row plus the two
   gates times the two experts' values. -/
module

public import proofs.«01_k».proof.Proof.Tables
public import proofs.«01_k».proof.Proof.Mix
public import Idealize.ShloMosaic.Lib.Pointwise

@[expose] public section

set_option maxRecDepth 16384

noncomputable section

namespace Cert.KernelIdeal.Experts

open Idealize.ShloMosaic Idealize.ShloMosaic.Pointwise Cert.KernelIdeal.Gen

theorem pay9_at (x : Vec Ideal S256x1024 .f32) (g : Vec Ideal S1x1024 .f32) (r : Fin 256) (d : Fin 1024) :
    k0_pay9 (F := Ideal) x g (ix2 r d) = Mix.normed (fun k => x (ix2 r k)) (fun k => g (ix2 (0 : Fin 1) k)) d := by
  pointwise [k0_pay9, Mix.normed]

theorem pay7_at (gb : Vec Ideal S256x1 .f32) (h : FVec Ideal S256x1024 .bf16) (y : FVec Ideal S256x1024 .f32) (b1 b3 : Vec Ideal S1024x256 .bf16) (b2 : Vec Ideal S256x1024 .bf16)
    (x g : Mix.Row) (w1 w3 : Mix.Up) (w2 : Mix.Down) (r : Fin 256) (hh : ∀ d, h (ix2 r d) = Mix.normed x g d)
    (h1 : ∀ d f, b1 (ix2 d f) = w1 d f) (h3 : ∀ d f, b3 (ix2 d f) = w3 d f) (h2 : ∀ f k, b2 (ix2 f k) = w2 f k) (k : Fin 1024) :
    k0_pay7 (F := Ideal) gb h y b1 b3 b2 (ix2 r k) = y (ix2 r k) + gb (ix2 r (0 : Fin 1)) * Mix.expert x g w1 w3 w2 k := by
  pointwise [k0_pay7]
  simp only [hh, h1, h3, h2, Mix.half_tanh, Mix.expert, Mix.hidden, Mix.proj]

theorem pay10_at (y : Vec Ideal S256x1024 .f32) (ga : Vec Ideal S256x1 .f32) (n : Vec Ideal S1x1024 .f32) (a1 a3 : Vec Ideal S1024x256 .bf16) (a2 : Vec Ideal S256x1024 .bf16)
    (w1 w3 : Mix.Up) (w2 : Mix.Down) (r : Fin 256)
    (h1 : ∀ d f, a1 (ix2 d f) = w1 d f) (h3 : ∀ d f, a3 (ix2 d f) = w3 d f) (h2 : ∀ f k, a2 (ix2 f k) = w2 f k) (k : Fin 1024) :
    k0_pay10 (F := Ideal) y ga n a1 a3 a2 (ix2 r k)
      = y (ix2 r k) + ga (ix2 r (0 : Fin 1)) * Mix.expert (fun k => y (ix2 r k)) (fun k => n (ix2 (0 : Fin 1) k)) w1 w3 w2 k := by
  have hh := pay9_at y n r
  pointwise [k0_pay10]
  simp only [hh, h1, h3, h2, Mix.half_tanh, Mix.expert, Mix.hidden, Mix.proj]

theorem pay1_at (w : Vec Ideal S1x1024x256 .f32) (p : Fin 1024) (q : Fin 256) : k0_pay1 (F := Ideal) w (ix2 p q) = w (ix3 (0 : Fin 1) p q) := by
  pointwise [k0_pay1]
theorem pay2_at (w : Vec Ideal S1x1024x256 .f32) (p : Fin 1024) (q : Fin 256) : k0_pay2 (F := Ideal) w (ix2 p q) = w (ix3 (0 : Fin 1) p q) := by
  pointwise [k0_pay2]
theorem pay3_at (w : Vec Ideal S1x256x1024 .f32) (p : Fin 256) (q : Fin 1024) : k0_pay3 (F := Ideal) w (ix2 p q) = w (ix3 (0 : Fin 1) p q) := by
  pointwise [k0_pay3]
theorem pay4_at (w : Vec Ideal S1x1024x256 .f32) (p : Fin 1024) (q : Fin 256) : k0_pay4 (F := Ideal) w (ix2 p q) = w (ix3 (0 : Fin 1) p q) := by
  pointwise [k0_pay4]
theorem pay5_at (w : Vec Ideal S1x1024x256 .f32) (p : Fin 1024) (q : Fin 256) : k0_pay5 (F := Ideal) w (ix2 p q) = w (ix3 (0 : Fin 1) p q) := by
  pointwise [k0_pay5]
theorem pay6_at (w : Vec Ideal S1x256x1024 .f32) (p : Fin 256) (q : Fin 1024) : k0_pay6 (F := Ideal) w (ix2 p q) = w (ix3 (0 : Fin 1) p q) := by
  pointwise [k0_pay6]
theorem pay8_at (r : Fin 256) (k : Fin 1024) : k0_pay8 (F := Ideal) (ix2 r k) = 0 := by
  pointwise [k0_pay8]

theorem rowsOf_at (x : Vec Ideal S256x1152 .f32) (r : Fin 256) (k : Fin 1024) : rowsOf x (ix2 r k) = x (ix2 r (⟨k.val, by omega⟩ : Fin 1152)) := by
  pointwise [rowsOf]
theorem gateA_at (x : Vec Ideal S256x1152 .f32) (r : Fin 256) : gateA x (ix2 r (0 : Fin 1)) = x (ix2 r (⟨1026, by decide⟩ : Fin 1152)) := by
  pointwise [gateA]
theorem gateB_at (x : Vec Ideal S256x1152 .f32) (r : Fin 256) : gateB x (ix2 r (0 : Fin 1)) = x (ix2 r (⟨1027, by decide⟩ : Fin 1152)) := by
  pointwise [gateB]

/-- A row of a used tile: the row, and each gate times the expert its tile has loaded. -/
theorem tileOut_at (x : Vec Ideal S256x1152 .f32) (g : Vec Ideal S1x1024 .f32) (a1 a3 : Vec Ideal S1x1024x256 .f32) (a2 : Vec Ideal S1x256x1024 .f32)
    (b1 b3 : Vec Ideal S1x1024x256 .f32) (b2 : Vec Ideal S1x256x1024 .f32) (X : Fin 1152 → EReal) (G : Mix.Row) (v1 v3 w1 w3 : Mix.Up) (v2 w2 : Mix.Down)
    (r : Fin 256) (hX : ∀ k, x (ix2 r k) = X k) (hG : ∀ k, g (ix2 (0 : Fin 1) k) = G k)
    (e1 : ∀ d f, a1 (ix3 (0 : Fin 1) d f) = v1 d f) (e3 : ∀ d f, a3 (ix3 (0 : Fin 1) d f) = v3 d f) (e2 : ∀ f k, a2 (ix3 (0 : Fin 1) f k) = v2 f k)
    (f1 : ∀ d f, b1 (ix3 (0 : Fin 1) d f) = w1 d f) (f3 : ∀ d f, b3 (ix3 (0 : Fin 1) d f) = w3 d f) (f2 : ∀ f k, b2 (ix3 (0 : Fin 1) f k) = w2 f k) (k : Fin 1024) :
    tileOut (F := Ideal) x g (k0_pay1 a1) (k0_pay2 a3) (k0_pay3 a2) (k0_pay4 b1) (k0_pay5 b3) (k0_pay6 b2) (ix2 r k)
      = X ⟨k.val, by omega⟩ + X ⟨1026, by decide⟩ * Mix.expert (fun k => X ⟨k.val, by omega⟩) G v1 v3 v2 k
          + X ⟨1027, by decide⟩ * Mix.expert (fun k => X ⟨k.val, by omega⟩) G w1 w3 w2 k := by
  have hR : (fun k => rowsOf x (ix2 r k)) = fun k : Fin 1024 => X ⟨k.val, by omega⟩ := funext fun k => (rowsOf_at x r k).trans (hX _)
  have hg : (fun k => g (ix2 (0 : Fin 1) k)) = G := funext hG
  refine (pay7_at (gateB x) _ _ _ _ _ (fun k => X ⟨k.val, by omega⟩) G w1 w3 w2 r (fun d => ?_)
    (fun d f => (pay4_at _ _ _).trans (f1 d f)) (fun d f => (pay5_at _ _ _).trans (f3 d f)) (fun f k => (pay6_at _ _ _).trans (f2 f k)) k).trans ?_
  · exact (pay9_at _ _ r d).trans (by rw [hR, hg])
  · rw [pay10_at (rowsOf x) (gateA x) g _ _ _ v1 v3 v2 r (fun d f => (pay1_at _ _ _).trans (e1 d f)) (fun d f => (pay2_at _ _ _).trans (e3 d f))
      (fun f k => (pay3_at _ _ _).trans (e2 f k)) k, hR, hg, rowsOf_at, gateA_at, gateB_at, hX, hX, hX]

end Cert.KernelIdeal.Experts

end
-- ==== Proof.Result.lean ====
/- The result array: every tile writes its own 256 rows of it back, so that it is the tiles' blocks one below the other. -/
module

public import proofs.«01_k».proof.Proof.Launch
public import proofs.«01_k».proof.Proof.Tile

@[expose] public section

set_option maxRecDepth 16384

noncomputable section

namespace Cert.KernelIdeal.Experts

open Idealize.ShloMosaic Idealize.ShloMosaic.TcCoe Idealize.ShloMosaic.Pointwise
open Idealize.ShloMosaic.WordCmp
open Idealize.ShloMosaic.Rounds
open Idealize.ShloMosaic.Pipeline (Dat Window)
open Cert.KernelIdeal.Gen

variable {F : FTy → Type} [FloatOps F]
variable (m : (ℓ : Loc nD τ sig) → Buf (Elt F) ℓ)

theorem flush_8 (hO : Fits m) (t : Fin (cfgM m hO).N) : ((cfgM m hO).win 8).flush t = true :=
  (Pipeline.Window.flushOf_reads cc0_transform_8 reads0_8 hreads0_8 0 (by decide) (by decide)
    (Pipeline.Window.sep_of_coord cc0_transform_8 0 0 (fun _ => rfl) (by decide)) (P := 1) (m := 0) (by decide) rfl t).mpr (Nat.mod_one _)

/-- The tile an array's row lies in. -/
abbrev tileOf (R : Fin 61440) : Fin grid0.N := ⟨R.val / 256, by rw [N_0]; omega⟩

/-- The tiles' blocks one below the other. -/
def stacked (hO : Fits m) (c : Dev nD) : S61440x1024.Idx → Elt F .f32 := fun i =>
  outAt m hO c (tileOf (i 0)) (ix2 (⟨(i 0).val % 256, Nat.mod_lt _ (by decide)⟩ : Fin 256) (i 1))

theorem emb_8 (hO : Fits m) (t : Fin (cfgM m hO).N) (r : Fin 256) (k : Fin 1024) :
    ((((cfgM m hO).win 8).rect t).emb (ix2 r k) : S61440x1024.Idx)
      = ix2 (⟨t.val * 256 + r.val, by have := lt_of_lt_of_eq t.isLt N_0; omega⟩ : Fin 61440) k := by
  refine funext fun (a : Fin 2) => Fin.ext ?_
  refine (Window.rect_emb_val ((cfgM m hO).win 8) t _ a).trans ?_
  fin_cases a
  · exact congrArg (· * 256 + r.val) (show (BitVec.ofNat 32 (grid0.coords t 0).val).toNat = t.val from by
      rw [coords_val]; exact toNat_ofNat_of_lt (by have := lt_of_lt_of_eq t.isLt N_0; omega))
  · show 0 * 1024 + k.val = k.val; omega

theorem stacked_at (hO : Fits m) (c : Dev nD) (t : Fin (cfgM m hO).N) (r : Fin 256) (k : Fin 1024)
    (R : Fin 61440) (hR : R.val = t.val * 256 + r.val) : stacked m hO c (ix2 R k) = outAt m hO c t (ix2 r k) := by
  have e1 : tileOf R = t := Fin.ext (show R.val / 256 = t.val by omega)
  have e2 : (⟨R.val % 256, Nat.mod_lt _ (by decide)⟩ : Fin 256) = r := Fin.ext (show R.val % 256 = r.val by omega)
  show outAt m hO c (tileOf R) (ix2 (⟨R.val % 256, Nat.mod_lt _ (by decide)⟩ : Fin 256) k) = _
  rw [e1, e2]

theorem cut_8 (hO : Fits m) (O : Fin grid0.N → S256x1024.Idx → Elt F .f32) (G : S61440x1024.Idx → Elt F .f32) (t : Fin (cfgM m hO).N)
    (h : ∀ (r : Fin 256) (k : Fin 1024), O t (ix2 r k) = G ((((cfgM m hO).win 8).rect t).emb (ix2 r k))) :
    ((cfgM m hO).win 8).cut (grid0.coords t) (O t) = (((cfgM m hO).win 8).blk t).view.read (Elt F) G := by
  have e : ∀ y : S256x1024.Idx, O t y = G ((((cfgM m hO).win 8).rect t).emb y) := fun y => by
    idx_vars y
    exact h _ _
  exact funext e

theorem flushed_8 (hO : Fits m) (c : Dev nD) (t : Fin (cfgM m hO).N) :
    (dats m hO 0 c).flushed 8 t = (((cfgM m hO).win 8).blk t).view.read (Elt F) (stacked m hO c) :=
  (congrArg (((cfgM m hO).win 8).cut (grid0.coords t)) (after_8 m hO c t)).trans
    (cut_8 m hO (outAt m hO c) (stacked m hO c) t fun r k => ((congrArg (stacked m hO c) (emb_8 m hO t r k)).trans (stacked_at m hO c t r k _ rfl)).symm)

theorem cover_8 (hO : Fits m) (i : S61440x1024.Idx) :
    ∃ t : Fin (cfgM m hO).N, ((cfgM m hO).win 8).flush t = true ∧ i ∈ (((cfgM m hO).win 8).blk t).view.set := by
  obtain ⟨R, k, rfl⟩ : ∃ (R : Fin 61440) (k : Fin 1024), i = ix2 R k := ⟨i 0, i 1, eq_ix2 i⟩
  refine ⟨tileOf R, flush_8 m hO _, ?_⟩
  have e := emb_8 m hO (tileOf R) ⟨R.val % 256, Nat.mod_lt _ (by decide)⟩ k
  have hR : (⟨(tileOf R).val * 256 + R.val % 256, by have := R.isLt; show R.val / 256 * 256 + R.val % 256 < 61440; omega⟩ : Fin 61440) = R :=
    Fin.ext (show R.val / 256 * 256 + R.val % 256 = R.val by omega)
  rw [show (ix2 R k : S61440x1024.Idx) = (((cfgM m hO).win 8).rect (tileOf R)).emb (ix2 ⟨R.val % 256, Nat.mod_lt _ (by decide)⟩ k) from
    (e.trans (congrArg (fun R' => ix2 R' k) hR)).symm]
  exact View.emb_mem_set _ _

theorem resAt_eq (hO : Fits m) (c : Dev nD) : resAt m hO c = stacked m hO c :=
  (dats m hO 0 c).arrAt_eq_of_cover 8 (stacked m hO c) (fun t _ => flushed_8 m hO c t) (cover_8 m hO)

end Cert.KernelIdeal.Experts

end
-- ==== Proof.Rows.lean ====
/- The expert call's result as one function of its eight arrays, which both programs are shown to compute. -/
module

public import proofs.«01_k».proof.Proof.Mix
public import Idealize.ShloMosaic.Lib.Pointwise
public import Idealize.ShloMosaic.Lib.WordCmp

@[expose] public section

noncomputable section

namespace Cert.Mix

open Idealize.ShloMosaic Idealize.ShloMosaic.Pointwise

abbrev Rows : Shape := ⟨2, ![61440, 1152]⟩
abbrev Wide : Shape := ⟨2, ![61440, 1024]⟩
abbrev One : Shape := ⟨2, ![1, 1024]⟩
abbrev Ups : Shape := ⟨3, ![32, 1024, 256]⟩
abbrev Downs : Shape := ⟨3, ![32, 256, 1024]⟩
abbrev Tiles : Shape := ⟨1, ![240]⟩
abbrev Count : Shape := ⟨1, ![1]⟩

/-- The number a word names among the 32 experts. -/
abbrev named (w : BitVec 32) : Fin 32 := ⟨w.toNat % 32, Nat.mod_lt _ (by decide)⟩

abbrev tile (R : Fin 61440) : Fin 240 := ⟨R.val / 256, by omega⟩

/-- The row's own entries, and its two gates. -/
abbrev row (a0 : Rows.Idx → EReal) (R : Fin 61440) : Row := fun k => a0 (ix2 R (⟨k.val, by omega⟩ : Fin 1152))
abbrev gate0 (a0 : Rows.Idx → EReal) (R : Fin 61440) : EReal := a0 (ix2 R (⟨1026, by decide⟩ : Fin 1152))
abbrev gate1 (a0 : Rows.Idx → EReal) (R : Fin 61440) : EReal := a0 (ix2 R (⟨1027, by decide⟩ : Fin 1152))
abbrev scale (a1 : One.Idx → EReal) : Row := fun k => a1 (ix2 (0 : Fin 1) k)
abbrev up (a : Ups.Idx → EReal) (e : Fin 32) : Up := fun d f => a (ix3 e d f)
abbrev down (a : Downs.Idx → EReal) (e : Fin 32) : Down := fun f k => a (ix3 e f k)

/-- A row of a used tile: the row, and each of its two gates times its tile's expert. -/
def mixed (a0 : Rows.Idx → EReal) (a1 : One.Idx → EReal) (a2 a3 : Ups.Idx → EReal) (a4 : Downs.Idx → EReal) (a5 a6 : Tiles.Idx → BitVec 32)
    (R : Fin 61440) (k : Fin 1024) : EReal :=
  let A := named (a5 (ix1 (tile R)))
  let B := named (a6 (ix1 (tile R)))
  row a0 R k + gate0 a0 R * expert (row a0 R) (scale a1) (up a2 A) (up a3 A) (down a4 A) k
    + gate1 a0 R * expert (row a0 R) (scale a1) (up a2 B) (up a3 B) (down a4 B) k

/-- The row's tile is among the used ones. -/
abbrev inUse (a7 : Count.Idx → BitVec 32) (R : Fin 61440) : Prop := (BitVec.ofNat 32 (tile R).val).toInt < (a7 (ix1 (0 : Fin 1))).toInt

def result (a0 : Rows.Idx → EReal) (a1 : One.Idx → EReal) (a2 a3 : Ups.Idx → EReal) (a4 : Downs.Idx → EReal) (a5 a6 : Tiles.Idx → BitVec 32)
    (a7 : Count.Idx → BitVec 32) : Wide.Idx → EReal := fun i =>
  if inUse a7 (i 0) then mixed a0 a1 a2 a3 a4 a5 a6 (i 0) (i 1) else 0

/-- The entry of a one-hot row: one at the expert that the word names. -/
theorem onehot (w : BitVec 32) (hw : w.toNat < 32) (n : ℕ) (hn : n < 32) :
    (FloatOps.uitofp (F := Ideal) .f32 (IntOp.cmpi .eq w (BitVec.ofNat 32 n)) : EReal) = if named w = ⟨n, hn⟩ then 1 else 0 := by
  rw [WordCmp.cmpi_eq_eq]
  have h : (w = BitVec.ofNat 32 n) ↔ named w = ⟨n, hn⟩ := by
    rw [Fin.ext_iff, ← BitVec.toNat_inj, WordCmp.toNat_ofNat_of_lt (by omega)]
    show w.toNat = n ↔ w.toNat % 32 = n
    omega
  by_cases e : w = BitVec.ofNat 32 n
  · rw [decide_eq_true e, if_pos (h.mp e)]; simp [FloatOps.uitofp]
  · rw [decide_eq_false e, if_neg fun k => e (h.mpr k)]; simp [FloatOps.uitofp]

end Cert.Mix

end
-- ==== Proof.Value.lean ====
/- The kernel's value: the result array, row by row, is the two chosen experts' gated sum on the used tiles and zero on the
   others. -/
module

public import proofs.«01_k».proof.Proof.Result
public import proofs.«01_k».proof.Proof.Rows

@[expose] public section

set_option maxRecDepth 16384

noncomputable section

namespace Cert.KernelIdeal.Experts

open Idealize.ShloMosaic Idealize.ShloMosaic.TcCoe Idealize.ShloMosaic.Pointwise
open Cert.KernelIdeal.Gen

variable (m : (ℓ : Loc nD τ sig) → Buf (Elt Ideal) ℓ)

/-- The arrays the call is made with, as functions of their indices. -/
abbrev asked (c : Dev nD) : S61440x1024.Idx → EReal :=
  Mix.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem outAt_live (hO : Fits m) (c : Dev nD) (t : Fin (cfgM m hO).N) (hl : Live m (pt t)) (r : Fin 256) (k : Fin 1024) (R : Fin 61440)
    (hR : R.val = t.val * 256 + r.val) :
    outAt m hO c t (ix2 r k) = Mix.mixed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) R k := by
  obtain rfl : c = 0 := Subsingleton.elim _ _
  have e : pt t = Mix.tile R := Fin.ext (show t.val = R.val / 256 by omega)
  have eR : (⟨t.val * 256 + r.val, by have := lt_of_lt_of_eq t.isLt N_0; omega⟩ : Fin 61440) = R := Fin.ext hR.symm
  unfold outAt
  rw [if_pos ((live_at m t).mpr hl)]
  refine (tileOut_at _ _ _ _ _ _ _ _ (fun k => (m (((0 : Dev nD) : Thread nD τ).loc main_arg0) : S61440x1152.Idx → EReal) (ix2 R k)) _ _ _ _ _ _ _ r
    (fun k => (blk0 m hO 0 t r k).trans ?_) (fun k => blk1 m hO 0 t 0 k)
    (fun d f => blk2 m hO 0 t 0 d f) (fun d f => blk3 m hO 0 t 0 d f) (fun f k => blk4 m hO 0 t 0 f k)
    (fun d f => blk5 m hO 0 t 0 d f) (fun d f => blk6 m hO 0 t 0 d f) (fun f k => blk7 m hO 0 t 0 f k) k).trans ?_
  · rw [eR]
  · rw [e]; rfl

theorem outAt_dead (hO : Fits m) (c : Dev nD) (t : Fin (cfgM m hO).N) (hl : ¬ Live m (pt t)) (r : Fin 256) (k : Fin 1024) :
    outAt m hO c t (ix2 r k) = 0 := by
  unfold outAt
  rw [if_neg fun h => hl ((live_at m t).mp h)]
  exact pay8_at r k

theorem value (hO : Fits m) (c : Dev nD) : resAt m hO c = asked m c := by
  rw [resAt_eq]
  have e : ∀ (R : Fin 61440) (k : Fin 1024), stacked m hO c (ix2 R k) = asked m c (ix2 R k) := fun R k => by
    obtain rfl : c = 0 := Subsingleton.elim _ _
    rw [stacked_at m hO 0 (tileOf R) ⟨R.val % 256, Nat.mod_lt _ (by decide)⟩ k R (show R.val = R.val / 256 * 256 + R.val % 256 by omega)]
    by_cases hl : Live m (Mix.tile R)
    · refine (outAt_live m hO 0 (tileOf R) hl _ k R (show R.val = R.val / 256 * 256 + R.val % 256 by omega)).trans ?_
      exact (if_pos hl).symm
    · refine (outAt_dead m hO 0 (tileOf R) hl _ k).trans ?_
      exact (if_neg hl).symm
  exact funext fun i => (congrArg _ (eq_ix2 i)).trans ((e (i 0) (i 1)).trans (congrArg _ (eq_ix2 i).symm))

end Cert.KernelIdeal.Experts

end
-- ==== Proof.Dense.lean ====
/- The reference's value: the sum over all the experts, weighted by the gates' one-hot rows, is the two chosen experts'
   gated sum. -/
module

public import proofs.«01_k».proof.Proof.Gen.ReferenceIdeal.Run
public import proofs.«01_k».proof.Proof.Rows
public import Idealize.ShloMosaic.Lib.Pointwise
public import Idealize.ShloMosaic.Lib.Tactic.CleanTypes

@[expose] public section

set_option maxRecDepth 16384

noncomputable section

namespace Cert.ReferenceIdeal.Experts

open Idealize.ShloMosaic Idealize.ShloMosaic.TcCoe Idealize.ShloMosaic.Pointwise
open Cert.ReferenceIdeal.Gen Cert.ReferenceIdeal.Value

variable (m : (ℓ : Loc nD τ sig) → Buf (Elt Ideal) ℓ)

theorem const_id (s : Shape) (i : s.Idx) : id (constant (F := Ideal) s .f32 0x00000000#32) i = 0 := Ideal.ofBits_zero_f32

/-- One expert's term at one hidden unit, its place and its one-hot entries by the expert's number. -/
theorem term_at (a0 : Mix.Rows.Idx → EReal) (a1 : Mix.One.Idx → EReal) (a2 a3 : Mix.Ups.Idx → EReal) (a4 : Mix.Downs.Idx → EReal)
    (a5 a6 : Mix.Tiles.Idx → BitVec 32) (h5 : ∀ y, (a5 y).toNat < 32) (h6 : ∀ y, (a6 y).toNat < 32) (R : Fin 61440) (k : Fin 1024) (f : Fin 256)
    (n : ℕ) (hn : n < 32) (E : Fin 32) (hE : E = ⟨n, hn⟩) :
    Mix.hidden (Mix.row a0 R) (Mix.scale a1) (Mix.up a2 ⟨n, hn⟩) (Mix.up a3 ⟨n, hn⟩) f
        * (Mix.gate0 a0 R * (FloatOps.uitofp (F := Ideal) .f32 (IntOp.cmpi .eq (a5 (ix1 (Mix.tile R))) (BitVec.ofNat 32 n)) : EReal)
          + Mix.gate1 a0 R * (FloatOps.uitofp (F := Ideal) .f32 (IntOp.cmpi .eq (a6 (ix1 (Mix.tile R))) (BitVec.ofNat 32 n)) : EReal))
        * Mix.down a4 ⟨n, hn⟩ f k
      = Mix.hidden (Mix.row a0 R) (Mix.scale a1) (Mix.up a2 E) (Mix.up a3 E) f
        * Mix.weight (Mix.gate0 a0 R) (Mix.gate1 a0 R) (Mix.named (a5 (ix1 (Mix.tile R)))) (Mix.named (a6 (ix1 (Mix.tile R)))) E
        * Mix.down a4 E f k := by
  subst hE
  rw [Mix.onehot _ (h5 _) n hn, Mix.onehot _ (h6 _) n hn]
  rfl

set_option maxHeartbeats 4000000 in
theorem value_at (c : Dev nD) (a0 : Mix.Rows.Idx → EReal) (a1 : Mix.One.Idx → EReal) (a2 a3 : Mix.Ups.Idx → EReal) (a4 : Mix.Downs.Idx → EReal)
    (a5 a6 : Mix.Tiles.Idx → BitVec 32) (a7 : Mix.Count.Idx → BitVec 32)
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7)
    (h5 : ∀ y, (a5 y).toNat < 32) (h6 : ∀ y, (a6 y).toNat < 32)
    (g0 : ∀ R, 0 ≤ Mix.gate0 a0 R) (g1 : ∀ R, 0 ≤ Mix.gate1 a0 R) (t0 : ∀ R, Mix.gate0 a0 R ≠ ⊤) (t1 : ∀ R, Mix.gate1 a0 R ≠ ⊤)
    (R : Fin 61440) (k : Fin 1024) :
    res_main_v106 m c (ix2 R k) = Mix.result a0 a1 a2 a3 a4 a5 a6 a7 (ix2 R k) := by
  unfold res_main_v106
  clean_types
  rw [e0, e1, e2, e3, e4, e5, e6, e7]
  pointwise
  simp only [const_id, Finset.univ_unique, Finset.sum_singleton, WordCmp.cmpi_slt_eq, WordCmp.select_decide]
  show _ = if Mix.inUse a7 R then Mix.mixed a0 a1 a2 a3 a4 a5 a6 R k else 0
  refine ite_congr rfl (fun _ => ?_) fun _ => rfl
  refine Eq.trans ?_ (Mix.mixture (Mix.row a0 R) (Mix.scale a1) (Mix.up a2) (Mix.up a3) (Mix.down a4) (Mix.gate0 a0 R) (Mix.gate1 a0 R)
    (g0 R) (g1 R) (t0 R) (t1 R) (Mix.named (a5 (ix1 (Mix.tile R)))) (Mix.named (a6 (ix1 (Mix.tile R)))) k _ fun _ => rfl)
  refine congrArg₂ (· + ·) rfl (congrArg₂ (· + ·) (congrArg₂ (· + ·) (congrArg₂ (· + ·) (Eq.trans ?_ (zero_add _).symm) ?_) ?_) ?_) <;>
    refine Finset.sum_congr rfl fun e _ => Finset.sum_congr rfl fun f _ => ?_
  · exact term_at a0 a1 a2 a3 a4 a5 a6 h5 h6 R k f (e.val) (by omega) (Mix.member 0 e) (Fin.ext (by simp <;> omega))
  · exact term_at a0 a1 a2 a3 a4 a5 a6 h5 h6 R k f (8 + e.val) (by omega) (Mix.member 1 e) (Fin.ext (by simp <;> omega))
  · exact term_at a0 a1 a2 a3 a4 a5 a6 h5 h6 R k f (16 + e.val) (by omega) (Mix.member 2 e) (Fin.ext (by simp <;> omega))
  · exact term_at a0 a1 a2 a3 a4 a5 a6 h5 h6 R k f (24 + e.val) (by omega) (Mix.member 3 e) (Fin.ext (by simp <;> omega))

end Cert.ReferenceIdeal.Experts

end
-- ==== Proof.Joined.lean ====
/- The projection out of the three mixers: what a block of 512 rows computes, the array that the blocks make, and the one
   product over the joined mixers that the reference makes. -/
module

public import proofs.«01_k».proof.Proof.Gen.OutprojIdeal.Value
public import proofs.«01_k».proof.Proof.Gen.MixedIdeal.Run
public import Idealize.ShloMosaic.Lib.Pointwise
public import Idealize.ShloMosaic.Lib.IdealHost
public import Idealize.ShloMosaic.Lib.WordCmp
public import Idealize.ShloMosaic.Lib.ValueIdx

@[expose] public section

set_option maxRecDepth 16384

noncomputable section

namespace Cert.OutprojIdeal.Joined

open Idealize.ShloMosaic Idealize.ShloMosaic.TcCoe Idealize.ShloMosaic.Pointwise Cert.OutprojIdeal Cert.OutprojIdeal.Gen

theorem pay_at (x : Vec Ideal S512x1024 .f32) (a b : Vec Ideal S512x256 .bf16) (g : Vec Ideal S512x512 .bf16)
    (wa wb : Vec Ideal S256x1024 .bf16) (wg : Vec Ideal S512x1024 .bf16) (r : Fin 512) (k : Fin 1024) :
    k0_pay1 (F := Ideal) x a wa b wb g wg (ix2 r k)
      = x (ix2 r k) + (∑ d : Fin 256, a (ix2 r d) * wa (ix2 d k)) + (∑ d : Fin 256, b (ix2 r d) * wb (ix2 d k))
        + ∑ d : Fin 512, g (ix2 r d) * wg (ix2 d k) := by
  pointwise [k0_pay1]

/-- A row and the three mixers' parts of the product. -/
def parts (x : S32768x1024.Idx → EReal) (a b : S32768x256.Idx → EReal) (g : S32768x512.Idx → EReal) (w : S1024x1024.Idx → EReal)
    (R : Fin 32768) (k : Fin 1024) : EReal :=
  x (ix2 R k) + (∑ d : Fin 256, a (ix2 R d) * w (ix2 (⟨d.val, by omega⟩ : Fin 1024) k))
    + (∑ d : Fin 256, b (ix2 R d) * w (ix2 (⟨256 + d.val, by omega⟩ : Fin 1024) k))
    + ∑ d : Fin 512, g (ix2 R d) * w (ix2 (⟨512 + d.val, by omega⟩ : Fin 1024) k)

theorem split3 (f : Fin 1024 → EReal) : ∑ d : Fin 1024, f d
    = (∑ d : Fin 256, f ⟨d.val, by omega⟩) + (∑ d : Fin 256, f ⟨256 + d.val, by omega⟩) + ∑ d : Fin 512, f ⟨512 + d.val, by omega⟩ :=
  (Fin.sum_univ_add (a := 512) (b := 512) f).trans
    (congrArg (· + ∑ d : Fin 512, f ⟨512 + d.val, by omega⟩) (Fin.sum_univ_add (a := 256) (b := 256) fun d : Fin 512 => f ⟨d.val, by omega⟩))

/-- The reference's lines: the three mixers joined, one product, and the row added. -/
abbrev asked (x : FVec Ideal S32768x1024 .f32) (a b : FVec Ideal S32768x256 .bf16) (g : FVec Ideal S32768x512 .bf16) (w : FVec Ideal S1024x1024 .f32) :
    FVec Ideal S32768x1024 .f32 :=
  addf x (Host.dotGeneral Cert.MixedIdeal.dot_S32768x1024_S1024x1024_S32768x1024_1_0_0_1_n_n none
    (concatenate Cert.MixedIdeal.S32768x1024 1 [⟨Cert.MixedIdeal.S32768x256, extf .f32 a Cert.MixedIdeal.Gen.bitsLt_bf16_f32⟩,
      ⟨Cert.MixedIdeal.S32768x256, extf .f32 b Cert.MixedIdeal.Gen.bitsLt_bf16_f32⟩,
      ⟨Cert.MixedIdeal.S32768x512, extf .f32 g Cert.MixedIdeal.Gen.bitsLt_bf16_f32⟩]
      Cert.MixedIdeal.Gen.concatenates_S32768x256_S32768x256_S32768x512_S32768x1024_d1) w)

theorem ref_at (x : S32768x1024.Idx → EReal) (a b : S32768x256.Idx → EReal) (g : S32768x512.Idx → EReal) (w : S1024x1024.Idx → EReal)
    (R : Fin 32768) (k : Fin 1024) :
    asked x a b g w (ix2 R k) = parts x a b g w R k := by
  pointwise [asked, parts]
  rw [split3, ← add_assoc, ← add_assoc]
  refine congrArg₂ (· + ·) (congrArg₂ (· + ·) (congrArg (x (ix2 R k) + ·) ?_) ?_) ?_
  · exact Finset.sum_congr rfl fun d _ => by rw [dif_pos d.isLt]
  · exact Finset.sum_congr rfl fun d _ => by
      rw [dif_neg (show ¬ 256 + d.val < 256 by omega), dif_pos (show 256 + d.val - 256 < 256 by omega)]
      exact congrArg (fun e => b (ix2 R e) * _) (Fin.ext (show 256 + d.val - 256 = d.val by omega))
  · exact Finset.sum_congr rfl fun d _ => by
      rw [dif_neg (show ¬ 512 + d.val < 256 by omega), dif_neg (show ¬ 512 + d.val - 256 < 256 by omega)]
      exact congrArg (fun e => g (ix2 R e) * _) (Fin.ext (show 512 + d.val - 256 - 256 = d.val by omega))

/-! ## The kernel's array -/

variable (m : (ℓ : Loc nD τ sig) → Buf (Elt Ideal) ℓ)

/-- The projection's result as a function of the arrays that the call is made with. -/
def joined (c : Dev nD) : S32768x1024.Idx → EReal := fun i =>
  parts (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1)

theorem coords_val : ∀ t : Fin grid0.N, (grid0.coords t 0).val = t.val := by decide +kernel

/-- Row `r` of block `t`. -/
abbrev row (t : Fin cfg0.N) (r : Fin 512) : Fin 32768 := ⟨t.val * 512 + r.val, by have := lt_of_lt_of_eq t.isLt N_0; omega⟩

theorem point (t : Fin cfg0.N) : (BitVec.ofNat 32 (grid0.coords t 0).val).toNat = t.val := by
  rw [coords_val]; exact WordCmp.toNat_ofNat_of_lt (by have := lt_of_lt_of_eq t.isLt N_0; omega)

theorem blk0 (c : Dev nD) (t : Fin cfg0.N) (r : Fin 512) (k : Fin 1024) :
    iblk m c 0 t (ix2 r k) = (m ((c.tc : Thread nD τ).loc main_arg0) : S32768x1024.Idx → EReal) (ix2 (row t r) k) := by
  show V m c main_arg0 (((cfg0.win 0).rect t).emb (ix2 r k)) = _
  rw [V_main_arg0]
  refine congrArg (m ((c.tc : Thread nD τ).loc main_arg0) : S32768x1024.Idx → EReal) (funext fun (a : Fin 2) => Fin.ext ?_)
  refine (Pipeline.Window.rect_emb_val (cfg0.win 0) t _ a).trans ?_
  fin_cases a
  · exact congrArg (· * 512 + r.val) (point t)
  · show 0 * 1024 + k.val = k.val; omega

theorem blk1 (c : Dev nD) (t : Fin cfg0.N) (r : Fin 512) (k : Fin 256) :
    iblk m c 1 t (ix2 r k) = (m ((c.tc : Thread nD τ).loc main_arg1) : S32768x256.Idx → EReal) (ix2 (row t r) k) := by
  show V m c main_arg1 (((cfg0.win 1).rect t).emb (ix2 r k)) = _
  rw [V_main_arg1]
  refine congrArg (m ((c.tc : Thread nD τ).loc main_arg1) : S32768x256.Idx → EReal) (funext fun (a : Fin 2) => Fin.ext ?_)
  refine (Pipeline.Window.rect_emb_val (cfg0.win 1) t _ a).trans ?_
  fin_cases a
  · exact congrArg (· * 512 + r.val) (point t)
  · show 0 * 256 + k.val = k.val; omega

theorem blk2 (c : Dev nD) (t : Fin cfg0.N) (r : Fin 512) (k : Fin 256) :
    iblk m c 2 t (ix2 r k) = (m ((c.tc : Thread nD τ).loc main_arg2) : S32768x256.Idx → EReal) (ix2 (row t r) k) := by
  show V m c main_arg2 (((cfg0.win 2).rect t).emb (ix2 r k)) = _
  rw [V_main_arg2]
  refine congrArg (m ((c.tc : Thread nD τ).loc main_arg2) : S32768x256.Idx → EReal) (funext fun (a : Fin 2) => Fin.ext ?_)
  refine (Pipeline.Window.rect_emb_val (cfg0.win 2) t _ a).trans ?_
  fin_cases a
  · exact congrArg (· * 512 + r.val) (point t)
  · show 0 * 256 + k.val = k.val; omega

theorem blk3 (c : Dev nD) (t : Fin cfg0.N) (r : Fin 512) (k : Fin 512) :
    iblk m c 3 t (ix2 r k) = (m ((c.tc : Thread nD τ).loc main_arg3) : S32768x512.Idx → EReal) (ix2 (row t r) k) := by
  show V m c main_arg3 (((cfg0.win 3).rect t).emb (ix2 r k)) = _
  rw [V_main_arg3]
  refine congrArg (m ((c.tc : Thread nD τ).loc main_arg3) : S32768x512.Idx → EReal) (funext fun (a : Fin 2) => Fin.ext ?_)
  refine (Pipeline.Window.rect_emb_val (cfg0.win 3) t _ a).trans ?_
  fin_cases a
  · exact congrArg (· * 512 + r.val) (point t)
  · show 0 * 512 + k.val = k.val; omega

/-- The weight that the call stages is the argument: over the extended reals its cast is the identity. -/
theorem V_weight (c : Dev nD) : V m c main_v0 = (m ((c.tc : Thread nD τ).loc main_arg4) : S1024x1024.Idx → EReal) := by
  have e : V m c main_v0 = (truncf (F := Ideal) .bf16 (m ((c.tc : Thread nD τ).loc main_arg4) : FVec Ideal S1024x1024 .f32) bitsLt_bf16_f32 : FVec Ideal S1024x1024 .bf16) := by
    show StableHlo.after hostOps0 _ main_v0 = _
    after_results <;> rfl
  exact e

theorem blk4 (c : Dev nD) (t : Fin cfg0.N) (p : Fin 1024) (k : Fin 1024) :
    iblk m c 4 t (ix2 p k) = (m ((c.tc : Thread nD τ).loc main_arg4) : S1024x1024.Idx → EReal) (ix2 p k) := by
  show V m c main_v0 (((cfg0.win 4).rect t).emb (ix2 p k)) = _
  rw [V_weight]
  refine congrArg (m ((c.tc : Thread nD τ).loc main_arg4) : S1024x1024.Idx → EReal) (funext fun (a : Fin 2) => Fin.ext ?_)
  refine (Pipeline.Window.rect_emb_val (cfg0.win 4) t _ a).trans ?_
  fin_cases a
  · show 0 * 1024 + p.val = p.val; omega
  · show 0 * 1024 + k.val = k.val; omega

theorem zeros : (![0, 0] : Fin 2 → ℕ) = fun _ => 0 := by decide

theorem out_at (x : Vec Ideal S512x1024 .f32) (a b : Vec Ideal S512x256 .bf16) (g : Vec Ideal S512x512 .bf16) (w : Vec Ideal S1024x1024 .bf16)
    (r : Fin 512) (k : Fin 1024) :
    out0_5 (F := Ideal) x a b g w (ix2 r k) = x (ix2 r k) + (∑ d : Fin 256, a (ix2 r d) * w (ix2 (⟨d.val, by omega⟩ : Fin 1024) k))
      + (∑ d : Fin 256, b (ix2 r d) * w (ix2 (⟨256 + d.val, by omega⟩ : Fin 1024) k))
      + ∑ d : Fin 512, g (ix2 r d) * w (ix2 (⟨512 + d.val, by omega⟩ : Fin 1024) k) := by
  unfold out0_5
  rw [View.canon_unit_zero zeros, View.ld_unit_zero zeros, View.ld_unit_zero zeros, View.ld_unit_zero zeros, View.ld_unit_zero zeros,
    View.ld_unit, View.ld_unit, View.ld_unit]
  refine (pay_at _ _ _ _ _ _ _ r k).trans ?_
  refine congrArg₂ (· + ·) (congrArg₂ (· + ·) (congrArg (x (ix2 r k) + ·) ?_) ?_) ?_
  · exact Finset.sum_congr rfl fun d _ => congrArg (a (ix2 r d) * ·) (by pointwise)
  · exact Finset.sum_congr rfl fun d _ => congrArg (b (ix2 r d) * ·) (by pointwise)
  · exact Finset.sum_congr rfl fun d _ => congrArg (g (ix2 r d) * ·) (by pointwise)

theorem emb5 (t : Fin cfg0.N) (r : Fin 512) (k : Fin 1024) : (((cfg0.win 5).rect t).emb (ix2 r k) : S32768x1024.Idx) = ix2 (row t r) k := by
  refine funext fun (a : Fin 2) => Fin.ext ?_
  refine (Pipeline.Window.rect_emb_val (cfg0.win 5) t _ a).trans ?_
  fin_cases a
  · exact congrArg (· * 512 + r.val) (point t)
  · show 0 * 1024 + k.val = k.val; omega

theorem cut5 (O : S512x1024.Idx → EReal) (G : S32768x1024.Idx → EReal) (t : Fin cfg0.N)
    (h : ∀ (r : Fin 512) (k : Fin 1024), O (ix2 r k) = G (((cfg0.win 5).rect t).emb (ix2 r k))) :
    (cfg0.win 5).cut (grid0.coords t) O = ((cfg0.win 5).blk t).view.read (Elt Ideal) G := by
  have e : ∀ y : S512x1024.Idx, O y = G (((cfg0.win 5).rect t).emb y) := fun y => by
    idx_vars y
    exact h _ _
  exact funext e

/-- The 64 blocks make the whole array. -/
theorem value (c : Dev nD) : (dats m 0 c).arrAt 5 cfg0.N = joined m c :=
  (dats m 0 c).arrAt_eq_of_cover 5 (joined m c)
    (fun t _ => (Value.flushed5 m c t).trans (cut5 _ _ t fun r k => by
      rw [emb5, out_at]
      simp only [blk0, blk1, blk2, blk3, blk4]
      rfl))
    (fun i => by
      obtain ⟨R, k, rfl⟩ : ∃ (R : Fin 32768) (k : Fin 1024), i = ix2 R k := ⟨i 0, i 1, eq_ix2 i⟩
      have hN : R.val / 512 < cfg0.N := lt_of_lt_of_eq (by omega : R.val / 512 < 64) N_0.symm
      refine ⟨⟨R.val / 512, hN⟩, flush0_5 _, ?_⟩
      have hR : row ⟨R.val / 512, hN⟩ ⟨R.val % 512, Nat.mod_lt _ (by decide)⟩ = R := Fin.ext (show R.val / 512 * 512 + R.val % 512 = R.val by omega)
      rw [show (ix2 R k : S32768x1024.Idx) = ((cfg0.win 5).rect ⟨R.val / 512, hN⟩).emb (ix2 ⟨R.val % 512, Nat.mod_lt _ (by decide)⟩ k) from
        ((emb5 _ _ _).trans (congrArg (fun R' => ix2 R' k) hR)).symm]
      exact View.emb_mem_set _ _)

/-- The reference's result is the same function of the same arrays. -/
theorem reference_value (c : Dev nD) (x : S32768x1024.Idx → EReal) (a b : S32768x256.Idx → EReal) (g : S32768x512.Idx → EReal) (w : S1024x1024.Idx → EReal)
    (hx : x = m ((c.tc : Thread nD τ).loc main_arg0)) (ha : a = m ((c.tc : Thread nD τ).loc main_arg1)) (hb : b = m ((c.tc : Thread nD τ).loc main_arg2))
    (hg : g = m ((c.tc : Thread nD τ).loc main_arg3)) (hw : w = m ((c.tc : Thread nD τ).loc main_arg4)) :
    asked x a b g w = joined m c := by
  subst hx ha hb hg hw
  exact funext fun i => (congrArg _ (eq_ix2 i)).trans (ref_at _ _ _ _ _ (i 0) (i 1))

end Cert.OutprojIdeal.Joined

end
-- ==== Proof.FetchBase.lean ====
/- The rows that the gather moves: the places they are copied from and to, what a copy hands back when it lands, and one
   copy started. Everything is over any values `F`. -/
module

public import proofs.«01_k».proof.Proof.Gen.FetchIdeal
public import proofs.«01_k».proof.Proof.Gen.FetchIdeal.Points
public import proofs.«01_k».proof.Proof.Gen.FetchIdeal.Skeleton
public import proofs.«01_k».proof.Proof.Gen.FetchIdeal.Launch
public import Idealize.ShloMosaic.Lib.Pipeline.FrameBody
public import Idealize.ShloMosaic.Lib.Pipeline.Frame
public import Idealize.ShloMosaic.Lib.Pipeline.Kit
public import Idealize.ShloMosaic.Lib.Batch
public import Idealize.ShloMosaic.Lib.Ring
public import Idealize.ShloMosaic.Lib.Tactic
public import Idealize.ShloMosaic.Lib.WordCmp
public import Idealize.ShloMosaic.Lib.Pipeline.ValueKit
public import Idealize.ShloMosaic.Lib.ValueLayout
public import Idealize.ShloMosaic.Lib.VecWindow
public import Idealize.ShloMosaic.Lib.WholeRead

@[expose] public section

set_option maxRecDepth 16384

noncomputable section

namespace Cert.FetchIdeal.Fetched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN shareDrop)
open Cert.FetchIdeal.Gen

variable {F : FTy → Type} [FloatOps F]

local notation "𝕄" => MT nD τ sig Unit (Elt F) ℕ (Pipeline.UD sig nD τ) ℕ

/-! ## Places -/

/-- The rows to fetch from, and the two slots they are fetched into. -/
abbrev ysM : Memref sig .tc .hbm S61440x1024 .f32 := Memref.whole main_arg0
abbrev ybuf : Memref sig .tc .vmem S2x512x1024 .f32 := Memref.whole cc0_scratch0

theorem row_inb (s : Fin 2) (j : Fin 512) : ∀ a, (![s.val, j.val, 0] : Fin 3 → ℕ) a + S1x1x1024.size a ≤ S2x512x1024.size a := fun a =>
  match a with
  | ⟨0, _⟩ => by show s.val + 1 ≤ 2; omega
  | ⟨1, _⟩ => by show j.val + 1 ≤ 512; omega
  | ⟨2, _⟩ => by show 0 + 1024 ≤ 1024; omega

theorem src_inb (p : Fin 61440) : ∀ a, (![p.val, 0] : Fin 2 → ℕ) a + S1x1024.size a ≤ S61440x1024.size a := fun a =>
  match a with
  | ⟨0, _⟩ => by show p.val + 1 ≤ 61440; omega
  | ⟨1, _⟩ => by show 0 + 1024 ≤ 1024; omega

/-- Row `j` of slot `s`, and row `p` of the array. -/
abbrev row (s : Fin 2) (j : Fin 512) : Memref sig .tc .vmem S1x1024 .f32 :=
  (ybuf.slice (Rect.unit (s := S2x512x1024) ![s.val, j.val, 0] S1x1x1024.size (row_inb s j)) (fun _ => rfl)).squeeze S1x1024 squeezes_S1x1x1024_S1x1024
abbrev srcRow (p : Fin 61440) : Memref sig .tc .hbm S1x1024 .f32 :=
  ysM.slice (Rect.unit (s := S61440x1024) ![p.val, 0] S1x1024.size (src_inb p)) (fun _ => rfl)

/-- The elements of that row. -/
abbrev rowSet (s : Fin 2) (j : Fin 512) : Finset (S2x512x1024.Idx) := (Rect.unit (s := S2x512x1024) ![s.val, j.val, 0] S1x1x1024.size (row_inb s j)).set
abbrev srcSet (p : Fin 61440) : Finset (S61440x1024.Idx) := (Rect.unit (s := S61440x1024) ![p.val, 0] S1x1024.size (src_inb p)).set

/-- The semaphore of a slot. -/
theorem sem_inb (s : Fin 2) : ∀ a, (![s.val] : Fin 1 → ℕ) a + S1.size a ≤ S2.size a := fun a =>
  match a with
  | ⟨0, _⟩ => by show s.val + 1 ≤ 2; omega
abbrev slotSem (s : Fin 2) : DmaSem sig := ((cc0_scratch1.slice (Rect.unit (s := S2) ![s.val] S1.size (sem_inb s))).squeeze S_ squeezes_S1_S_).sem

/-- The units that one row's copy moves. -/
abbrev units : ℕ := (row 0 0).view.dmaCredit

theorem units_pos : 0 < units := by decide

section
variable (c : Dev nD)

/-- What the two slots hold once the rows `P` have been fetched into either. -/
def got (P : Fin 512 → Fin 61440) (ys : S61440x1024.Idx → Elt F .f32) : S2x512x1024.Idx → Elt F .f32 :=
  fun y => ys (ix2 (P (y 1)) (y 2))

/-- The share of the array that row `j` of slot `s` reads through. -/
def slotShare (s : Fin 2) : PosShare TreeShare := shareTokN fullShare s.val
def tok (s : Fin 2) (j : Fin 512) : PosShare TreeShare := shareTokN (slotShare s) j.val

variable (ys : S61440x1024.Idx → Elt F .f32)

def rowAny (s : Fin 2) (j : Fin 512) : sProp 𝕄 :=
  iprop(∃ f, ((c : Thread nD τ).loc cc0_scratch0) ↦[rowSet s j]{fullShare} f)
def rowGot (P : Fin 512 → Fin 61440) (s : Fin 2) (j : Fin 512) : sProp 𝕄 :=
  ((c : Thread nD τ).loc cc0_scratch0) ↦[rowSet s j]{fullShare} (got P ys)
def tokAll (s : Fin 2) (j : Fin 512) : sProp 𝕄 :=
  ((c : Thread nD τ).loc main_arg0) ↦{tok s j} ys
def tokRow (P : Fin 512 → Fin 61440) (s : Fin 2) (j : Fin 512) : sProp 𝕄 :=
  ((c : Thread nD τ).loc main_arg0) ↦[srcSet (P j)]{tok s j} ys
def tokRest (P : Fin 512 → Fin 61440) (s : Fin 2) (j : Fin 512) : sProp 𝕄 :=
  ((c : Thread nD τ).loc main_arg0) ↦[Finset.univ \ srcSet (P j)]{tok s j} ys

/-- What the copy of row `j` hands back when it lands. -/
def landed (P : Fin 512 → Fin 61440) (s : Fin 2) (j : Fin 512) : sProp 𝕄 := iprop(rowGot c ys P s j ∗ tokRow c ys P s j)

instance landed_storable (P : Fin 512 → Fin 61440) (s : Fin 2) (j : Fin 512) :
    BI.Storable (upEmb : UEmb _ 𝕄) (landed c ys P s j) := by
  unfold landed rowGot tokRow; infer_instance

/-- The copies of the rows `P` into slot `s`: `k` started, `u` units waited for. -/
abbrev flying (P : Fin 512 → Fin 61440) (s : Fin 2) (k u : ℕ) : sProp 𝕄 :=
  Batch (countersEmb (U := Pipeline.UD sig nD τ)) (c : Thread nD τ) (.dma (slotSem s)) () units (landed (F := F) c ys P s) k u

theorem tokAll_split (P : Fin 512 → Fin 61440) (s : Fin 2) (j : Fin 512) :
    (tokAll (F := F) c ys s j : sProp 𝕄) ⊣⊢ iprop(tokRow c ys P s j ∗ tokRest c ys P s j) := by
  unfold tokAll tokRow tokRest
  exact pointsTo_split_subset (Finset.subset_univ _)

theorem row_set (s : Fin 2) (j : Fin 512) : (row s j).view.set = rowSet s j := by
  show ((View.slice _ _).reshape _ _).set = _
  rw [View.set_reshape]; exact View.set_slice_whole _ _
theorem src_set (p : Fin 61440) : (srcRow p).view.set = srcSet p := View.set_slice_whole _ _

/-- One entry of a row, by its place in the slot. -/
theorem row_emb (s : Fin 2) (j : Fin 512) (x : S1x1024.Idx) :
    ((row s j).view.emb x : S2x512x1024.Idx) = ix3 s j (x 1) := by
  obtain ⟨z, b, rfl⟩ : ∃ (z : Fin 1) (b : Fin 1024), x = ix2 z b := ⟨x 0, x 1, (ix2_eta x).symm⟩
  obtain rfl : z = 0 := Subsingleton.elim _ _
  show (Rect.unit (s := S2x512x1024) ![s.val, j.val, 0] S1x1x1024.size (row_inb s j)).emb (Shape.reshapeEquiv _ (ix2 (0 : Fin 1) b)) = ix3 s j b
  rw [show Shape.reshapeEquiv (squeezes_S1x1x1024_S1x1024).numel_eq (ix2 (0 : Fin 1) b) = ix3 (0 : Fin 1) (0 : Fin 1) b from
    Shape.reshapeEquiv_eq_of_rowMajor _ (by
      rw [Shape.rowMajor_val_three, Shape.rowMajor_val_two]
      show (0 * 1 + 0) * 1024 + b.val = 0 * 1024 + b.val
      rfl)]
  funext a
  refine Fin.ext ((ValueKit.rect_emb_unit_val _ _ _ _ a).trans ?_)
  match a with
  | ⟨0, _⟩ => exact Nat.add_zero _
  | ⟨1, _⟩ => exact Nat.add_zero _
  | ⟨2, _⟩ => exact Nat.zero_add _

theorem src_emb (p : Fin 61440) (x : S1x1024.Idx) : ((srcRow p).view.emb x : S61440x1024.Idx) = ix2 p (x 1) := by
  obtain ⟨z, b, rfl⟩ : ∃ (z : Fin 1) (b : Fin 1024), x = ix2 z b := ⟨x 0, x 1, (ix2_eta x).symm⟩
  obtain rfl : z = 0 := Subsingleton.elim _ _
  show (Rect.unit (s := S61440x1024) ![p.val, 0] S1x1024.size (src_inb p)).emb (ix2 (0 : Fin 1) b) = ix2 p b
  funext a
  refine Fin.ext ((ValueKit.rect_emb_unit_val _ _ _ _ a).trans ?_)
  match a with
  | ⟨0, _⟩ => exact Nat.add_zero _
  | ⟨1, _⟩ => exact Nat.zero_add _

/-- A copied row holds what `got` says. -/
theorem row_written (P : Fin 512 → Fin 61440) (s : Fin 2) (j : Fin 512) (fd : S2x512x1024.Idx → Elt F .f32) :
    ∀ i ∈ rowSet s j, (row s j).view.write (Elt F) fd ((srcRow (P j)).view.read (Elt F) ys) Finset.univ i = got P ys i := by
  intro i hi
  rw [← row_set] at hi
  obtain ⟨x, -, rfl⟩ := Finset.mem_map.1 hi
  rw [View.write_emb_of_mem _ _ (Finset.mem_univ x), row_emb]
  show (_root_.cast rfl ((srcRow (P j)).view.read (Elt F) ys x) : Elt F .f32) = ys (ix2 (P j) (x 1))
  rw [View.read_apply, src_emb]
  rfl

/-- One copy started: the row and its share go into flight. -/
theorem issue_row (P : Fin 512 → Fin 61440) (s : Fin 2) (j : Fin 512) {o2 : Fin 3 → ℕ} {h2} (e2 : o2 = ![s.val, j.val, 0])
    {o3 : Fin 2 → ℕ} {h3} (e3 : o3 = ![(P j).val, 0]) {sem : DmaSem sig} (es : sem = slotSem s) {hsrc hdst hsem}
    {α : Type} {k : PUnit → Prog (TpuEff nD τ sig (Elt F) Λ₀ .tc) α} {Q : α → sProp 𝕄} :
    iprop(rowAny c s j ∗ tokAll c ys s j ∗ flying c ys P s j.val 0)
      ⊢ iprop((iprop(flying c ys P s (j.val + 1) 0 ∗ tokRest c ys P s j) -∗ wp frame (wpE (defs₀ (F := F)) Variants.none c none) Set.univ (k ⟨⟩) Q)
        -∗ wp frame (wpE (defs₀ (F := F)) Variants.none c none) Set.univ
          (.op (.enqueueDma (ysM.slice (Rect.unit (s := S61440x1024) o3 S1x1024.size h3) (fun _ => rfl))
            (.here ((ybuf.slice (Rect.unit (s := S2x512x1024) o2 S1x1x1024.size h2) (fun _ => rfl)).squeeze S1x1024 squeezes_S1x1x1024_S1x1024))
            (.dma sem) hsrc hdst hsem) k) Q) := by
  subst e2 e3 es
  unfold rowAny
  iintro ⟨⟨%fd, Hrow⟩, Htok, HB⟩ Hk
  ihave Ht := (tokAll_split c ys P s j).1 $$ Htok
  icases Ht with ⟨Ht, Hr⟩
  iapply (Transfers.wp_dmaBatch (countersEmb (U := Pipeline.UD sig nD τ)) Variants.none (c : Thread nD τ) none
    (src := srcRow (P j)) (dst := row s j) (sm := .dma (slotSem s)) (via := .same) (Sd := rowSet s j) (fs := ys) (fd := fd) (q := tok s j)
    (D := landed (F := F) c ys P s) (j := j.val) (u := 0) () units rfl (by rw [row_set]) j.isLt (Nat.zero_le _) ?_) $$ [Hrow Ht HB]
  · unfold landed rowGot tokRow
    rw [src_set]
    refine sep_mono (Entails.of_eq ?_) .rfl
    exact pointsTo_congr (row_written ys P s j fd)
  · rw [src_set]
    unfold tokRow
    isplitl [Ht]; · iexact Ht
    isplitl [Hrow]; · iexact Hrow
    iexact HB
  · iintro HB
    iapply Hk
    isplitl [HB]; · iexact HB
    iexact Hr

/-- The first `j` copies of a slot started: the rows and shares of the others, and what each started copy left behind. -/
def started (P : Fin 512 → Fin 61440) (s : Fin 2) (j : ℕ) : sProp 𝕄 :=
  iprop(flying c ys P s j 0 ∗ bigSep (Ring.rangeSet 512 j 512) (rowAny (F := F) c s) ∗ bigSep (Ring.rangeSet 512 j 512) (tokAll (F := F) c ys s)
    ∗ bigSep (Ring.rangeSet 512 0 j) (tokRest (F := F) c ys P s))

theorem start_next (P : Fin 512 → Fin 61440) (s : Fin 2) (j : ℕ) (hj : j < 512) {o2 : Fin 3 → ℕ} {h2} (e2 : o2 = ![s.val, j, 0])
    {o3 : Fin 2 → ℕ} {h3} (e3 : o3 = ![(P ⟨j, hj⟩).val, 0]) {sem : DmaSem sig} (es : sem = slotSem s) {hsrc hdst hsem}
    {α : Type} {k : PUnit → Prog (TpuEff nD τ sig (Elt F) Λ₀ .tc) α} {Q : α → sProp 𝕄} :
    started c ys P s j
      ⊢ iprop((started c ys P s (j + 1) -∗ wp frame (wpE (defs₀ (F := F)) Variants.none c none) Set.univ (k ⟨⟩) Q)
        -∗ wp frame (wpE (defs₀ (F := F)) Variants.none c none) Set.univ
          (.op (.enqueueDma (ysM.slice (Rect.unit (s := S61440x1024) o3 S1x1024.size h3) (fun _ => rfl))
            (.here ((ybuf.slice (Rect.unit (s := S2x512x1024) o2 S1x1x1024.size h2) (fun _ => rfl)).squeeze S1x1024 squeezes_S1x1x1024_S1x1024))
            (.dma sem) hsrc hdst hsem) k) Q) := by
  unfold started
  rw [Ring.bigSep_rangeSet_head hj hj, Ring.bigSep_rangeSet_head hj hj,
    Ring.bigSep_rangeSet_last (lo := 0) (hi := j + 1) (by omega) (by omega)]
  iintro ⟨HB, ⟨Hr, Hrs⟩, ⟨Ht, Hts⟩, Hd⟩ Hk
  iapply (issue_row c ys P s ⟨j, hj⟩ e2 e3 es) $$ [HB Hr Ht]
  · isplitl [Hr]; · iexact Hr
    isplitl [Ht]; · iexact Ht
    iexact HB
  iintro ⟨HB, Hn⟩
  iapply Hk
  isplitl [HB]; · iexact HB
  isplitl [Hrs]; · iexact Hrs
  isplitl [Hts]; · iexact Hts
  isplitl [Hn]; · iexact Hn
  iexact Hd

/-! ## The words that name the rows -/

theorem word_at {arg : Memref sig .tc .smem S1x512 .i32} (f : arg.view.ty.Contents (Elt F)) (j : Fin 512) {off : Fin 2 → ℕ}
    {inb : ∀ a, off a + S1x1.size a ≤ S1x512.size a} (e : off = ![0, j.val]) (x : S1x1.Idx) :
    (arg.access (Rect.unit (s := S1x512) off S1x1.size inb)).read (Elt F) f x = arg.view.read (Elt F) f (ix2 (0 : Fin 1) j) := by
  subst e
  show arg.view.read (Elt F) f ((Rect.unit (s := S1x512) ![0, j.val] S1x1.size inb).emb x) = _
  congr 1
  funext a
  refine Fin.ext ((ValueKit.rect_emb_unit_val _ _ _ _ a).trans ?_)
  match a with
  | ⟨0, _⟩ => exact (Nat.zero_add _).trans (by have := (x 0).isLt; change _ < 1 at this; show (x 0).val = 0; omega)
  | ⟨1, _⟩ => show j.val + (x 1).val = j.val; have := (x 1).isLt; change _ < 1 at this; omega

theorem sem_at (s : Fin 2) {off : Fin 1 → ℕ} {inb : ∀ a, off a + S1.size a ≤ S2.size a} (e : off = ![s.val]) :
    ((cc0_scratch1.slice (Rect.unit (s := S2) off S1.size inb)).squeeze S_ squeezes_S1_S_).sem = slotSem s := by
  subst e; rfl

/-- The memref's words are the numbers of the rows `P`. -/
def Names (arg : Memref sig .tc .smem S1x512 .i32) (f : arg.view.ty.Contents (Elt F)) (P : Fin 512 → Fin 61440) : Prop :=
  ∀ j : Fin 512, (arg.view.read (Elt F) f (ix2 (0 : Fin 1) j) : BitVec 32).toNat = (P j).val

theorem trips1 : k0_t1_loop.trips = 256 := by decide
theorem trips2 : k0_t2_loop.trips = 256 := by decide
theorem trips3 : k0_t3_loop.trips = 512 := by decide

section trips
variable (i : grid0.Coords) (arg1 : Memref sig .tc .smem S1x512 .i32) (harg1 : arg1.IsWhole) (arg2 : Memref sig .tc .smem S1x512 .i32) (harg2 : arg2.IsWhole)
  (arg3 : Memref sig .tc .vmem S1x1024 .f32) (harg3 : arg3.IsWhole) (arg5 : Memref sig .tc .vmem S512x1024 .f32) (harg5 : arg5.IsWhole)

/-- One word read, checked, and the copy of the row it names started. -/
theorem fetch_one {arg : Memref sig .tc .smem S1x512 .i32} (P : Fin 512 → Fin 61440) (s : Fin 2) (j : ℕ) (hj : j < 512) {q : PosShare TreeShare}
    {f : Buf (Elt F) (arg.view.loc (c : Thread nD τ))} (hf : Names (F := F) arg f P) {o1 : Fin 2 → ℕ} {h1} (e1 : o1 = ![0, j])
    {o2 : Fin 3 → ℕ} {h2} (e2 : o2 = ![s.val, j, 0]) {sem : DmaSem sig} (es : sem = slotSem s)
    {C : BitVec 32 → Prop} {dec : ∀ v, Decidable (C v)} {o3 : BitVec 32 → Fin 2 → ℕ} {h3 : ∀ v, PLift (C v) → ∀ a, o3 v a + S1x1024.size a ≤ S61440x1024.size a}
    (e3 : ∀ v, o3 v = ![v.toNat, 0]) (hC : ∀ v, (∀ a, o3 v a + S1x1024.size a ≤ S61440x1024.size a) → C v) {x hw}
    {α : Type} {k : PUnit → Prog (TpuEff nD τ sig (Elt F) Λ₀ .tc) α} {Q : α → sProp 𝕄} :
    iprop((arg.view.loc (c : Thread nD τ) ↦[arg.view.set]{q} f) ∗ started c ys P s j)
      ⊢ iprop((iprop((arg.view.loc (c : Thread nD τ) ↦[arg.view.set]{q} f) ∗ started c ys P s (j + 1))
          -∗ wp frame (wpE (defs₀ (F := F)) Variants.none c none) Set.univ (k ⟨⟩) Q)
        -∗ wp frame (wpE (defs₀ (F := F)) Variants.none c none) Set.univ
          (smemLoadElt arg (Rect.unit (s := S1x512) o1 S1x1.size h1) hw x fun v => .op (.assume (C v) (dec v)) fun h =>
            .op (.enqueueDma (ysM.slice (Rect.unit (s := S61440x1024) (o3 v) S1x1024.size (h3 v h)) (fun _ => rfl))
              (.here ((ybuf.slice (Rect.unit (s := S2x512x1024) o2 S1x1x1024.size h2) (fun _ => rfl)).squeeze S1x1024 squeezes_S1x1x1024_S1x1024))
              (.dma sem) (View.wordExact_bits rfl) ((View.wordExact_bits rfl).reshape _ _) ⟨Or.inl rfl, trivial⟩) k) Q) := by
  iintro ⟨Hw, HS⟩ Hk
  iapply (wp_smemLoadElt_named Variants.none (c : Thread nD τ) none Set.univ (m := arg) (q := q) (f := f) (S := arg.view.set) (View.set_slice_subset _ _)) $$ Hw
  iintro Hw %v %hv
  replace hv := hv.trans (word_at f ⟨j, hj⟩ e1 x)
  have hP : v.toNat = (P ⟨j, hj⟩).val := (congrArg BitVec.toNat hv).trans (hf ⟨j, hj⟩)
  have ho : o3 v = ![(P ⟨j, hj⟩).val, 0] := (e3 v).trans (by rw [hP])
  iapply (wp_assume Variants.none (c : Thread nD τ) none Set.univ (hC v (by rw [ho]; exact src_inb _)))
  iapply (start_next c ys P s j hj e2 ho es) $$ HS
  iintro HS
  iapply Hk
  isplitl [Hw]; · iexact Hw
  iexact HS

theorem trip1 (h1 : k0_cond1 i = 1#1) (P : Fin 512 → Fin 61440) {q : PosShare TreeShare} {f : Buf (Elt F) (arg1.view.loc (c : Thread nD τ))}
    (hf : Names (F := F) arg1 f P) (k : Fin k0_t1_loop.trips) (u : Unit) :
    iprop((arg1.view.loc (c : Thread nD τ) ↦[arg1.view.set]{q} f) ∗ started c ys P 0 (2 * k.val))
      ⊢ wp frame (wpE (defs₀ (F := F)) Variants.none c none) Set.univ
        (k0_t1_body (F := F) i arg1 harg1 arg2 harg2 arg3 harg3 ysM (Memref.isWhole_whole _) arg5 harg5 ybuf (Memref.isWhole_whole _) cc0_scratch1 h1 k u)
        (fun _ => iprop((arg1.view.loc (c : Thread nD τ) ↦[arg1.view.set]{q} f) ∗ started c ys P 0 (2 * (k.val + 1)))) := by
  have hk : k.val < 256 := trips1 ▸ k.isLt
  iintro H
  unfold k0_t1_body
  simp only [smemLoad, smemLoadElt_bind, Prog.bind_op, Prog.bind_lift, Prog.bind_ret]
  iapply (fetch_one c ys P 0 (2 * k.val) (by omega) hf (k0_off1_eq k) (k0_off2_eq k) (sem_at 0 rfl) (o3 := k0_off3) (C := k0_chk1 i) (fun _ => rfl) (fun _ h _ => h)) $$ H
  iintro H
  iapply (fetch_one c ys P 0 (2 * k.val + 1) (by omega) hf (k0_off4_eq k) (k0_off5_eq k) (sem_at 0 rfl) (o3 := k0_off6) (C := k0_chk2 i) (fun _ => rfl) (fun _ h _ => h)) $$ H
  iintro H
  sl_step
  iexact H

theorem off8_eq : ∀ t : Fin cfg0.N, k0_off8 (grid0.coords t) = ![1 - t.val % 2] := by decide +kernel
theorem off15_eq : ∀ t : Fin cfg0.N, k0_off15 (grid0.coords t) = ![t.val % 2] := by decide +kernel

end trips

end

end Cert.FetchIdeal.Fetched

end
-- ==== Proof.FetchRun.lean ====
/- One step of the gather: the loops that start copies and the loop that waits for them, and what a step leaves. -/
module

public import proofs.«01_k».proof.Proof.FetchBase

@[expose] public section

set_option maxRecDepth 16384

noncomputable section

namespace Cert.FetchIdeal.Fetched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN shareDrop)
open Cert.FetchIdeal.Gen

variable {F : FTy → Type} [FloatOps F]

local notation "𝕄" => MT nD τ sig Unit (Elt F) ℕ (Pipeline.UD sig nD τ) ℕ

variable (c : Dev nD) (ys : S61440x1024.Idx → Elt F .f32)

/-! ## A slot's states -/

/-- Nothing in flight to the slot. -/
def free (s : Fin 2) : sProp 𝕄 :=
  iprop(semVal ((c : Thread nD τ), .dma (slotSem s)) 0 ∗ bigSep Finset.univ (rowAny (F := F) c s) ∗ bigSep Finset.univ (tokAll (F := F) c ys s))
/-- The rows `P` in flight to it. -/
def inFlight (P : Fin 512 → Fin 61440) (s : Fin 2) : sProp 𝕄 :=
  iprop(flying c ys P s 512 0 ∗ bigSep Finset.univ (tokRest (F := F) c ys P s))
/-- The rows `P` arrived in it. -/
def arrived (P : Fin 512 → Fin 61440) (s : Fin 2) : sProp 𝕄 :=
  iprop(semVal ((c : Thread nD τ), .dma (slotSem s)) 0 ∗ bigSep Finset.univ (rowGot (F := F) c ys P s) ∗ bigSep Finset.univ (tokAll (F := F) c ys s))

theorem arrived_free (P : Fin 512 → Fin 61440) (s : Fin 2) : arrived c ys P s ⊢ free c ys s := by
  unfold arrived free
  refine sep_mono .rfl (sep_mono (BI.bigSep_mono fun j _ => ?_) .rfl)
  show (rowGot c ys P s j : sProp 𝕄) ⊢ rowAny c s j
  unfold rowGot rowAny
  iintro H; iexists _; iexact H

theorem free_start (P : Fin 512 → Fin 61440) (s : Fin 2) : free c ys s ⊢ (|={Set.univ}=> started c ys P s 0 : sProp 𝕄) := by
  unfold free started
  rw [Ring.rangeSet_univ, Ring.bigSep_rangeSet_empty (le_refl 0)]
  iintro ⟨Hv, Hr, Ht⟩
  imod (Transfers.batch_alloc' (Lvl := ℕ) (countersEmb (U := Pipeline.UD sig nD τ)) (c : Thread nD τ) () units (landed (F := F) c ys P s)
    (sm := .dma (slotSem s)) (E := Set.univ)) $$ Hv with HB
  imodintro
  isplitl [HB]; · iexact HB
  isplitl [Hr]; · iexact Hr
  isplitl [Ht]; · iexact Ht
  iempintro

theorem started_all (P : Fin 512 → Fin 61440) (s : Fin 2) : started c ys P s 512 ⊢ inFlight c ys P s := by
  unfold started inFlight
  rw [Ring.rangeSet_univ, Ring.bigSep_rangeSet_empty (le_refl 512), Ring.bigSep_rangeSet_empty (le_refl 512)]
  iintro ⟨HB, -, -, Hd⟩
  isplitl [HB]; · iexact HB
  iexact Hd

theorem waited_all (P : Fin 512 → Fin 61440) (s : Fin 2) :
    iprop(flying c ys P s 512 (512 * units) ∗ bigSep Finset.univ (tokRest (F := F) c ys P s)) ⊢ (|={Set.univ}=> arrived c ys P s : sProp 𝕄) := by
  rw [Nat.mul_comm 512 units]
  iintro ⟨HB, Hr⟩
  imod (Transfers.batch_collect' (Lvl := ℕ) (countersEmb (U := Pipeline.UD sig nD τ)) (c : Thread nD τ) (sm := .dma (slotSem s)) (ι := ()) (N := units)
    units_pos (D := landed (F := F) c ys P s)) $$ HB with ⟨HD, Hv⟩
  imodintro
  unfold arrived
  isplitl [Hv]; · iexact Hv
  ihave HD2 := (show bigSep Finset.univ (landed (F := F) c ys P s) ⊢ iprop(bigSep Finset.univ (rowGot (F := F) c ys P s) ∗ bigSep Finset.univ (tokRow (F := F) c ys P s)) from
    Entails.of_eq (BI.bigSep_sep Finset.univ (rowGot (F := F) c ys P s) (tokRow (F := F) c ys P s))) $$ HD
  icases HD2 with ⟨HD, Ht⟩
  isplitl [HD]; · iexact HD
  iapply (show iprop(bigSep Finset.univ (tokRow (F := F) c ys P s) ∗ bigSep Finset.univ (tokRest (F := F) c ys P s)) ⊢ bigSep Finset.univ (tokAll (F := F) c ys s) from
    (Entails.of_eq (BI.bigSep_sep Finset.univ (tokRow (F := F) c ys P s) (tokRest (F := F) c ys P s)).symm).trans
      (BI.bigSep_mono fun j _ => (tokAll_split c ys P s j).2))
  isplitl [Ht]; · iexact Ht
  iexact Hr

/-! ## The loops -/

section loops
variable (arg1 : Memref sig .tc .smem S1x512 .i32) (harg1 : arg1.IsWhole) (arg2 : Memref sig .tc .smem S1x512 .i32) (harg2 : arg2.IsWhole)
  (arg3 : Memref sig .tc .vmem S1x1024 .f32) (harg3 : arg3.IsWhole) (arg5 : Memref sig .tc .vmem S512x1024 .f32) (harg5 : arg5.IsWhole)

/-- The slot of step `t`, and the other. -/
def slot (n : ℕ) : Fin 2 := ⟨n % 2, Nat.mod_lt _ (by decide)⟩
def other (n : ℕ) : Fin 2 := ⟨1 - n % 2, by omega⟩

theorem off9_eq (t : Fin cfg0.N) (k : Fin k0_t2_loop.trips) : k0_off9 (grid0.coords t) k = ![(other t.val).val, 2 * k.val, 0] := by
  have h : k0_off9 (grid0.coords t) k = ![k0_off8 (grid0.coords t) 0, k0_off7 k 1, 0] := rfl
  rw [h, off8_eq, k0_off7_eq]; rfl
theorem off13_eq (t : Fin cfg0.N) (k : Fin k0_t2_loop.trips) : k0_off13 (grid0.coords t) k = ![(other t.val).val, 2 * k.val + 1, 0] := by
  have h : k0_off13 (grid0.coords t) k = ![k0_off8 (grid0.coords t) 0, k0_off11 k 1, 0] := rfl
  rw [h, off8_eq, k0_off11_eq]; rfl
theorem off12_eq (t : Fin cfg0.N) : k0_off12 (grid0.coords t) = ![(other t.val).val] := off8_eq t

theorem trip2 (t : Fin cfg0.N) (h2 : k0_cond2 (grid0.coords t) = 1#1) (P : Fin 512 → Fin 61440) {q : PosShare TreeShare} {f : Buf (Elt F) (arg2.view.loc (c : Thread nD τ))}
    (hf : Names (F := F) arg2 f P) (k : Fin k0_t2_loop.trips) (u : Unit) :
    iprop((arg2.view.loc (c : Thread nD τ) ↦[arg2.view.set]{q} f) ∗ started c ys P (other t.val) (2 * k.val))
      ⊢ wp frame (wpE (defs₀ (F := F)) Variants.none c none) Set.univ
        (k0_t2_body (F := F) (grid0.coords t) arg1 harg1 arg2 harg2 arg3 harg3 ysM (Memref.isWhole_whole _) arg5 harg5 ybuf (Memref.isWhole_whole _) cc0_scratch1 h2 k u)
        (fun _ => iprop((arg2.view.loc (c : Thread nD τ) ↦[arg2.view.set]{q} f) ∗ started c ys P (other t.val) (2 * (k.val + 1)))) := by
  have hk : k.val < 256 := trips2 ▸ k.isLt
  iintro H
  unfold k0_t2_body
  simp only [smemLoad, smemLoadElt_bind, Prog.bind_op, Prog.bind_lift, Prog.bind_ret]
  iapply (fetch_one c ys P (other t.val) (2 * k.val) (by omega) hf (k0_off7_eq k) (off9_eq t k) (sem_at (other t.val) (off8_eq t)) (o3 := k0_off10) (C := k0_chk3 (grid0.coords t)) (fun _ => rfl) (fun _ h _ => h)) $$ H
  iintro H
  iapply (fetch_one c ys P (other t.val) (2 * k.val + 1) (by omega) hf (k0_off11_eq k) (off13_eq t k) (sem_at (other t.val) (off12_eq t)) (o3 := k0_off14) (C := k0_chk4 (grid0.coords t)) (fun _ => rfl) (fun _ h _ => h)) $$ H
  iintro H
  sl_step
  iexact H

theorem loop1 (i : grid0.Coords) (h1 : k0_cond1 i = 1#1) (P : Fin 512 → Fin 61440) {q : PosShare TreeShare} {f : Buf (Elt F) (arg1.view.loc (c : Thread nD τ))}
    (hf : Names (F := F) arg1 f P) {β : Type} {kk : Unit → Prog (TpuEff nD τ sig (Elt F) Λ₀ .tc) β} {Q : β → sProp 𝕄} :
    iprop((arg1.view.loc (c : Thread nD τ) ↦[arg1.view.set]{q} f) ∗ free c ys 0)
      ⊢ iprop((iprop((arg1.view.loc (c : Thread nD τ) ↦[arg1.view.set]{q} f) ∗ inFlight c ys P 0)
          -∗ wp frame (wpE (defs₀ (F := F)) Variants.none c none) Set.univ (kk ⟨⟩) Q)
        -∗ wp frame (wpE (defs₀ (F := F)) Variants.none c none) Set.univ
          (Scf.Loop.for k0_t1_loop (k0_t1_ok i h1) ⟨⟩ (k0_t1_body (F := F) i arg1 harg1 arg2 harg2 arg3 harg3 ysM (Memref.isWhole_whole _) arg5 harg5 ybuf (Memref.isWhole_whole _) cc0_scratch1 h1) >>= kk) Q) := by
  iintro ⟨Hw, HF⟩ Hk
  imod (free_start c ys P 0) $$ HF with HS
  iapply (Scf.wp_for_bind (M := 𝕄) frame (wpE (defs₀ (F := F)) Variants.none c none) Set.univ k0_t1_loop.lb k0_t1_loop.ub k0_t1_loop.st (k0_t1_ok i h1) ⟨⟩ _
    (fun k _ => iprop((arg1.view.loc (c : Thread nD τ) ↦[arg1.view.set]{q} f) ∗ started c ys P 0 (2 * k)))
    (trip1 c ys i arg1 harg1 arg2 harg2 arg3 harg3 arg5 harg5 h1 P hf)) $$ [Hw HS]
  · isplitl [Hw]; · iexact Hw
    iexact HS
  iintro %acc ⟨Hw, HS⟩
  rw [show 2 * Scf.trips k0_t1_loop.lb k0_t1_loop.ub k0_t1_loop.st = 512 from congrArg (2 * ·) trips1]
  iapply Hk
  isplitl [Hw]; · iexact Hw
  iapply (started_all c ys P 0) $$ HS

theorem loop2 (t : Fin cfg0.N) (h2 : k0_cond2 (grid0.coords t) = 1#1) (P : Fin 512 → Fin 61440) {q : PosShare TreeShare} {f : Buf (Elt F) (arg2.view.loc (c : Thread nD τ))}
    (hf : Names (F := F) arg2 f P) {β : Type} {kk : Unit → Prog (TpuEff nD τ sig (Elt F) Λ₀ .tc) β} {Q : β → sProp 𝕄} :
    iprop((arg2.view.loc (c : Thread nD τ) ↦[arg2.view.set]{q} f) ∗ free c ys (other t.val))
      ⊢ iprop((iprop((arg2.view.loc (c : Thread nD τ) ↦[arg2.view.set]{q} f) ∗ inFlight c ys P (other t.val))
          -∗ wp frame (wpE (defs₀ (F := F)) Variants.none c none) Set.univ (kk ⟨⟩) Q)
        -∗ wp frame (wpE (defs₀ (F := F)) Variants.none c none) Set.univ
          (Scf.Loop.for k0_t2_loop (k0_t2_ok (grid0.coords t) h2) ⟨⟩ (k0_t2_body (F := F) (grid0.coords t) arg1 harg1 arg2 harg2 arg3 harg3 ysM (Memref.isWhole_whole _) arg5 harg5 ybuf (Memref.isWhole_whole _) cc0_scratch1 h2) >>= kk) Q) := by
  iintro ⟨Hw, HF⟩ Hk
  imod (free_start c ys P (other t.val)) $$ HF with HS
  iapply (Scf.wp_for_bind (M := 𝕄) frame (wpE (defs₀ (F := F)) Variants.none c none) Set.univ k0_t2_loop.lb k0_t2_loop.ub k0_t2_loop.st (k0_t2_ok (grid0.coords t) h2) ⟨⟩ _
    (fun k _ => iprop((arg2.view.loc (c : Thread nD τ) ↦[arg2.view.set]{q} f) ∗ started c ys P (other t.val) (2 * k)))
    (trip2 c ys arg1 harg1 arg2 harg2 arg3 harg3 arg5 harg5 t h2 P hf)) $$ [Hw HS]
  · isplitl [Hw]; · iexact Hw
    iexact HS
  iintro %acc ⟨Hw, HS⟩
  rw [show 2 * Scf.trips k0_t2_loop.lb k0_t2_loop.ub k0_t2_loop.st = 512 from congrArg (2 * ·) trips2]
  iapply Hk
  isplitl [Hw]; · iexact Hw
  iapply (started_all c ys P (other t.val)) $$ HS

theorem trip3 (t : Fin cfg0.N) (P : Fin 512 → Fin 61440) (k : Fin k0_t3_loop.trips) (u : Unit) :
    iprop(flying c ys P (slot t.val) 512 (k.val * units) ∗ ∃ W, owes (c : Thread nD τ) 0 W)
      ⊢ wp frame (wpE (defs₀ (F := F)) Variants.none c none) Set.univ
        (k0_t3_body (F := F) (grid0.coords t) arg1 harg1 arg2 harg2 arg3 harg3 ysM (Memref.isWhole_whole _) arg5 harg5 ybuf (Memref.isWhole_whole _) cc0_scratch1 k u)
        (fun _ => iprop(flying c ys P (slot t.val) 512 ((k.val + 1) * units) ∗ ∃ W, owes (c : Thread nD τ) 0 W)) := by
  have hk : k.val < 512 := trips3 ▸ k.isLt
  iintro ⟨HB, %W, HW⟩
  unfold k0_t3_body
  simp only [Prog.bind_op, Prog.bind_lift, Prog.bind_ret]
  rw [sem_at (slot t.val) (off15_eq t)]
  iapply (Transfers.wp_waitBatchMul (countersEmb (U := Pipeline.UD sig nD τ)) Variants.none (c : Thread nD τ) none (sem := slotSem (slot t.val))
    (dstw := (ybuf.slice (Rect.unit (s := S2x512x1024) (k0_off16 (grid0.coords t)) S1x1x1024.size (k0_off16_inb _)) (fun _ => rfl)).squeeze S1x1024 squeezes_S1x1x1024_S1x1024)
    (srcw := ysM.slice (Rect.unit (s := S61440x1024) ![0, 0] S1x1024.size inb_S61440x1024_S1x1024_0_0) (fun _ => rfl))
    (hsrc := View.wordExact_bits rfl) (hdst := (View.wordExact_bits rfl).reshape _ _) () (N := units) 1 (Nat.one_mul _).symm
    (D := landed (F := F) c ys P (slot t.val)) (j := 512) (u := k.val * units) (by have := Nat.mul_le_mul_right units (Nat.succ_le_of_lt hk); rw [Nat.succ_mul] at this; omega) (W := W)) $$ [HB HW]
  · isplitl [HB]; · iexact HB
    iexact HW
  iintro ⟨HB, HW⟩
  sl_step
  rw [Nat.one_mul, Nat.succ_mul]
  isplitl [HB]; · iexact HB
  iexists _; iexact HW

theorem loop3 (t : Fin cfg0.N) (P : Fin 512 → Fin 61440) {β : Type} {kk : Unit → Prog (TpuEff nD τ sig (Elt F) Λ₀ .tc) β} {Q : β → sProp 𝕄} :
    iprop(inFlight c ys P (slot t.val) ∗ ∃ W, owes (c : Thread nD τ) 0 W)
      ⊢ iprop((iprop(arrived c ys P (slot t.val) ∗ ∃ W, owes (c : Thread nD τ) 0 W)
          -∗ wp frame (wpE (defs₀ (F := F)) Variants.none c none) Set.univ (kk ⟨⟩) Q)
        -∗ wp frame (wpE (defs₀ (F := F)) Variants.none c none) Set.univ
          (Scf.Loop.for k0_t3_loop k0_t3_ok ⟨⟩ (k0_t3_body (F := F) (grid0.coords t) arg1 harg1 arg2 harg2 arg3 harg3 ysM (Memref.isWhole_whole _) arg5 harg5 ybuf (Memref.isWhole_whole _) cc0_scratch1) >>= kk) Q) := by
  unfold inFlight
  iintro ⟨⟨HB, Hr⟩, HW⟩ Hk
  iapply (Scf.wp_for_bind (M := 𝕄) frame (wpE (defs₀ (F := F)) Variants.none c none) Set.univ k0_t3_loop.lb k0_t3_loop.ub k0_t3_loop.st k0_t3_ok ⟨⟩ _
    (fun k _ => iprop(flying c ys P (slot t.val) 512 (k * units) ∗ ∃ W, owes (c : Thread nD τ) 0 W))
    (trip3 c ys arg1 harg1 arg2 harg2 arg3 harg3 arg5 harg5 t P)) $$ [HB HW]
  · rw [Nat.zero_mul]
    isplitl [HB]; · iexact HB
    iexact HW
  iintro %acc ⟨HB, HW⟩
  rw [show Scf.trips k0_t3_loop.lb k0_t3_loop.ub k0_t3_loop.st = 512 from trips3]
  imod (waited_all c ys P (slot t.val)) $$ [HB Hr] with HA
  · isplitl [HB]; · iexact HB
    iexact Hr
  iapply Hk
  isplitl [HA]; · iexact HA
  iexact HW

/-! ## The step -/

theorem off17_eq : ∀ t : Fin cfg0.N, k0_off17 (grid0.coords t) = ![t.val % 2, 0, 0] := by decide +kernel
theorem cond1_iff : ∀ t : Fin cfg0.N, k0_cond1 (grid0.coords t) = 1#1 ↔ t.val = 0 := by decide +kernel
theorem cond2_iff : ∀ t : Fin cfg0.N, k0_cond2 (grid0.coords t) = 1#1 ↔ t.val + 1 ≠ 64 := by decide +kernel

theorem rows_disjoint (s : Fin 2) (j j' : Fin 512) (h : j ≠ j') : Disjoint (rowSet s j) (rowSet s j') := by
  rw [Finset.disjoint_left]
  intro y hy hy'
  have a := (Rect.mem_set_unit.1 hy 1); have b := (Rect.mem_set_unit.1 hy' 1)
  change j.val ≤ _ ∧ _ < j.val + 1 at a
  change j'.val ≤ _ ∧ _ < j'.val + 1 at b
  exact h (Fin.ext (by omega))

theorem mem_row {y : S2x512x1024.Idx} {s : Fin 2} (h : y 0 = s) : y ∈ rowSet s (y 1) := by
  refine Rect.mem_set_unit.2 fun a => ?_
  match a with
  | ⟨0, _⟩ => show s.val ≤ (y 0).val ∧ (y 0).val < s.val + 1; have := congrArg Fin.val h; omega
  | ⟨1, _⟩ => show (y 1).val ≤ (y 1).val ∧ (y 1).val < (y 1).val + 1; omega
  | ⟨2, _⟩ => show 0 ≤ (y 2).val ∧ (y 2).val < 0 + 1024; have : (y 2).val < 1024 := (y 2).isLt; omega

/-- What a load of a slot reads once the rows `P` are in it. -/
def block (P : Fin 512 → Fin 61440) : Vec F S1x512x1024 .f32 := fun x => ys (ix2 (P (x 1)) (x 2))

theorem read_slot (P : Fin 512 → Fin 61440) {off : Fin 3 → ℕ} {inb} (s : Fin 2) (e : off = ![s.val, 0, 0]) :
    View.readAt (Elt F) ybuf.view (Rect.unit (s := S2x512x1024) off S1x512x1024.size inb).toLoadRect (got P ys) = block ys P := by
  subst e
  funext x
  show got P ys ((Rect.unit (s := S2x512x1024) ![s.val, 0, 0] S1x512x1024.size inb).emb x) = _
  show ys _ = ys _
  congr 1
  have e1 : ((Rect.unit (s := S2x512x1024) ![s.val, 0, 0] S1x512x1024.size inb).emb x) 1 = (x 1 : Fin 512) :=
    Fin.ext ((ValueKit.rect_emb_unit_val _ _ _ _ _).trans (Nat.zero_add _))
  have e2 : ((Rect.unit (s := S2x512x1024) ![s.val, 0, 0] S1x512x1024.size inb).emb x) 2 = (x 2 : Fin 1024) :=
    Fin.ext ((ValueKit.rect_emb_unit_val _ _ _ _ _).trans (Nat.zero_add _))
  rw [e1, e2]

theorem slot_part {off : Fin 3 → ℕ} {inb} (s : Fin 2) (e : off = ![s.val, 0, 0]) :
    ybuf.view.setOn (Rect.unit (s := S2x512x1024) off S1x512x1024.size inb).toLoadRect.set ⊆ Finset.univ.biUnion (rowSet s) := by
  subst e
  intro y hy
  obtain ⟨x, hx, rfl⟩ := Finset.mem_map.1 hy
  have h0 := Rect.mem_set_unit.1 hx 0
  change s.val ≤ (x 0).val ∧ (x 0).val < s.val + 1 at h0
  exact Finset.mem_biUnion.2 ⟨x 1, Finset.mem_univ _, mem_row (Fin.ext (by omega))⟩

theorem tail_run (t : Fin cfg0.N) (P : Fin 512 → Fin 61440) {q : PosShare TreeShare} {f3 : Buf (Elt F) (arg3.view.loc (c : Thread nD τ))}
    {Q : FVec F S512x1024 .f32 → sProp 𝕄} :
    iprop(inFlight c ys P (slot t.val) ∗ (∃ W, owes (c : Thread nD τ) 0 W) ∗ (arg3.view.loc (c : Thread nD τ) ↦[arg3.view.set]{q} f3))
      ⊢ iprop((iprop(arrived c ys P (slot t.val) ∗ (∃ W, owes (c : Thread nD τ) 0 W) ∗ (arg3.view.loc (c : Thread nD τ) ↦[arg3.view.set]{q} f3))
          -∗ Q (k0_pay1 (block ys P) (arg3.view.read (Elt F) f3)))
        -∗ wp frame (wpE (defs₀ (F := F)) Variants.none c none) Set.univ
          (Scf.Loop.for k0_t3_loop k0_t3_ok ⟨⟩ (k0_t3_body (F := F) (grid0.coords t) arg1 harg1 arg2 harg2 arg3 harg3 ysM (Memref.isWhole_whole _) arg5 harg5 ybuf (Memref.isWhole_whole _) cc0_scratch1)
            >>= fun _ => Prog.lift (.load ybuf (Rect.unit (s := S2x512x1024) (k0_off17 (grid0.coords t)) S1x512x1024.size (k0_off17_inb _)).toLoadRect (View.loadsAt_vmem h_S1x512x1024))
            >>= fun v19 => Prog.lift (.load arg3 (Rect.unit (s := S1x1024) ![0, 0] S1x1024.size inb_S1x1024_S1x1024_0_0).toLoadRect (View.loadsAt_vmem h_S1x1024))
            >>= fun v21 => pure (k0_pay1 v19 v21)) Q) := by
  iintro ⟨HF, HW, H3⟩ Hk
  iapply (loop3 c ys arg1 harg1 arg2 harg2 arg3 harg3 arg5 harg5 t P) $$ [HF HW]
  · isplitl [HF]; · iexact HF
    iexact HW
  iintro ⟨HA, HW⟩
  unfold arrived
  icases HA with ⟨Hv, Hr, Ht⟩
  ihave Hs := (Entails.of_eq (Ring.pointsTo_sub_blocks (Val := Elt F) (Name := ℕ) (U := Pipeline.UD sig nD τ) (Lvl := ℕ) (Ix := Unit) (ℓ := (c : Thread nD τ).loc cc0_scratch0) (rowSet (slot t.val)) (rows_disjoint _) _ rfl (q := fullShare) (got P ys)).symm) $$ [Hr]
  · iexact Hr
  simp only [Prog.bind_op, Prog.bind_lift, Prog.bind_ret]
  iapply (wp_load Variants.none (c : Thread nD τ) none Set.univ (m := ybuf) (q := fullShare) (f := got P ys) (slot_part (slot t.val) (off17_eq t))) $$ Hs
  iintro Hs
  rw [read_slot ys P (slot t.val) (off17_eq t)]
  sl_step
  sl_step
  rw [View.readAt_full]
  iapply Hk
  isplitl [Hv Hs Ht]
  · isplitl [Hv]; · iexact Hv
    isplitl [Hs]
    · iapply (Entails.of_eq (Ring.pointsTo_sub_blocks (Val := Elt F) (Name := ℕ) (U := Pipeline.UD sig nD τ) (Lvl := ℕ) (Ix := Unit) (ℓ := (c : Thread nD τ).loc cc0_scratch0) (rowSet (slot t.val)) (rows_disjoint _) _ rfl (q := fullShare) (got P ys)))
      iexact Hs
    iexact Ht
  isplitl [HW]; · iexact HW
  iexact H3

/-- What a slot holds between steps: nothing in flight before the first step and after the last, and otherwise the rows `P`. -/
def pending (n : ℕ) (P : Fin 512 → Fin 61440) (s : Fin 2) : sProp 𝕄 := if n = 0 ∨ n = 64 then free c ys s else inFlight c ys P s

theorem part_run (t : Fin cfg0.N) (P P' : Fin 512 → Fin 61440) {q1 q2 q3 : PosShare TreeShare} {f1 : Buf (Elt F) (arg1.view.loc (c : Thread nD τ))}
    {f2 : Buf (Elt F) (arg2.view.loc (c : Thread nD τ))} {f3 : Buf (Elt F) (arg3.view.loc (c : Thread nD τ))}
    (h1 : t.val = 0 → Names (F := F) arg1 f1 P) (h2 : t.val + 1 ≠ 64 → Names (F := F) arg2 f2 P')
    {Q : FVec F S512x1024 .f32 → sProp 𝕄} :
    iprop((arg1.view.loc (c : Thread nD τ) ↦[arg1.view.set]{q1} f1) ∗ (arg2.view.loc (c : Thread nD τ) ↦[arg2.view.set]{q2} f2)
        ∗ (arg3.view.loc (c : Thread nD τ) ↦[arg3.view.set]{q3} f3) ∗ (∃ W, owes (c : Thread nD τ) 0 W)
        ∗ pending c ys t.val P (slot t.val) ∗ free c ys (other t.val))
      ⊢ iprop((iprop((arg1.view.loc (c : Thread nD τ) ↦[arg1.view.set]{q1} f1) ∗ (arg2.view.loc (c : Thread nD τ) ↦[arg2.view.set]{q2} f2)
          ∗ (arg3.view.loc (c : Thread nD τ) ↦[arg3.view.set]{q3} f3) ∗ (∃ W, owes (c : Thread nD τ) 0 W)
          ∗ pending c ys (t.val + 1) P' (other t.val) ∗ free c ys (slot t.val))
          -∗ Q (k0_pay1 (block ys P) (arg3.view.read (Elt F) f3)))
        -∗ wp frame (wpE (defs₀ (F := F)) Variants.none c none) Set.univ
          (k0_part1 (F := F) (grid0.coords t) arg1 harg1 arg2 harg2 arg3 harg3 ysM (Memref.isWhole_whole _) arg5 harg5 ybuf (Memref.isWhole_whole _) cc0_scratch1) Q) := by
  have hN : t.val < 64 := N_0 ▸ t.isLt
  rw [k0_part1_eq_skeleton]
  unfold k0_part1_skel
  simp only []
  by_cases ht : t.val = 0
  · have c1 : k0_cond1 (grid0.coords t) = 1#1 := (cond1_iff t).2 ht
    have c2 : k0_cond2 (grid0.coords t) = 1#1 := (cond2_iff t).2 (by omega)
    have e0 : slot t.val = 0 := by rw [ht]; rfl
    rw [dif_pos c1, dif_pos c2, e0, show pending c ys t.val P 0 = free c ys 0 from if_pos (Or.inl ht),
      show pending c ys (t.val + 1) P' (other t.val) = inFlight c ys P' (other t.val) from if_neg (by omega)]
    have T := @tail_run F _ c ys arg1 harg1 arg2 harg2 arg3 harg3 arg5 harg5 t P
    rw [e0] at T
    iintro ⟨H1, H2, H3, HW, HP, HF⟩ Hk
    iapply (loop1 c ys arg1 harg1 arg2 harg2 arg3 harg3 arg5 harg5 (grid0.coords t) c1 P (h1 ht)) $$ [H1 HP]
    · isplitl [H1]; · iexact H1
      iexact HP
    iintro ⟨H1, HP⟩
    iapply (loop2 c ys arg1 harg1 arg2 harg2 arg3 harg3 arg5 harg5 t c2 P' (h2 (by omega))) $$ [H2 HF]
    · isplitl [H2]; · iexact H2
      iexact HF
    iintro ⟨H2, HF⟩
    iapply T $$ [HP HW H3]
    · isplitl [HP]; · iexact HP
      isplitl [HW]; · iexact HW
      iexact H3
    iintro ⟨HA, HW, H3⟩
    iapply Hk
    isplitl [H1]; · iexact H1
    isplitl [H2]; · iexact H2
    isplitl [H3]; · iexact H3
    isplitl [HW]; · iexact HW
    isplitl [HF]; · iexact HF
    iapply (arrived_free c ys P _) $$ HA
  · have c1 : ¬ k0_cond1 (grid0.coords t) = 1#1 := fun h => ht ((cond1_iff t).1 h)
    rw [dif_neg c1, show pending c ys t.val P (slot t.val) = inFlight c ys P (slot t.val) from if_neg (by omega)]
    by_cases hl : t.val + 1 = 64
    · have c2 : ¬ k0_cond2 (grid0.coords t) = 1#1 := fun h => (cond2_iff t).1 h hl
      rw [dif_neg c2, show pending c ys (t.val + 1) P' (other t.val) = free c ys (other t.val) from if_pos (Or.inr hl)]
      iintro ⟨H1, H2, H3, HW, HP, HF⟩ Hk
      iapply (tail_run c ys arg1 harg1 arg2 harg2 arg3 harg3 arg5 harg5 t P) $$ [HP HW H3]
      · isplitl [HP]; · iexact HP
        isplitl [HW]; · iexact HW
        iexact H3
      iintro ⟨HA, HW, H3⟩
      iapply Hk
      isplitl [H1]; · iexact H1
      isplitl [H2]; · iexact H2
      isplitl [H3]; · iexact H3
      isplitl [HW]; · iexact HW
      isplitl [HF]; · iexact HF
      iapply (arrived_free c ys P _) $$ HA
    · have c2 : k0_cond2 (grid0.coords t) = 1#1 := (cond2_iff t).2 hl
      rw [dif_pos c2, show pending c ys (t.val + 1) P' (other t.val) = inFlight c ys P' (other t.val) from if_neg (by omega)]
      iintro ⟨H1, H2, H3, HW, HP, HF⟩ Hk
      iapply (loop2 c ys arg1 harg1 arg2 harg2 arg3 harg3 arg5 harg5 t c2 P' (h2 hl)) $$ [H2 HF]
      · isplitl [H2]; · iexact H2
        iexact HF
      iintro ⟨H2, HF⟩
      iapply (tail_run c ys arg1 harg1 arg2 harg2 arg3 harg3 arg5 harg5 t P) $$ [HP HW H3]
      · isplitl [HP]; · iexact HP
        isplitl [HW]; · iexact HW
        iexact H3
      iintro ⟨HA, HW, H3⟩
      iapply Hk
      isplitl [H1]; · iexact H1
      isplitl [H2]; · iexact H2
      isplitl [H3]; · iexact H3
      isplitl [HW]; · iexact HW
      isplitl [HF]; · iexact HF
      iapply (arrived_free c ys P _) $$ HA

theorem body_run (t : Fin cfg0.N) (P P' : Fin 512 → Fin 61440) {q1 q2 q3 : PosShare TreeShare} {d1 d2 : S1x512.Idx → Elt F .i32} {d3 : S1x1024.Idx → Elt F .f32}
    (h1 : t.val = 0 → ∀ j : Fin 512, (d1 (ix2 (0 : Fin 1) j) : BitVec 32).toNat = (P j).val)
    (h2 : t.val + 1 ≠ 64 → ∀ j : Fin 512, (d2 (ix2 (0 : Fin 1) j) : BitVec 32).toNat = (P' j).val) {Q : PUnit → sProp 𝕄} :
    iprop(owns (c : Thread nD τ) arg1 q1 d1 ∗ owns (c : Thread nD τ) arg2 q2 d2 ∗ owns (c : Thread nD τ) arg3 q3 d3
        ∗ (∃ d, owns (c : Thread nD τ) arg5 fullShare d) ∗ (∃ W, owes (c : Thread nD τ) 0 W)
        ∗ pending c ys t.val P (slot t.val) ∗ free c ys (other t.val))
      ⊢ iprop((iprop(owns (c : Thread nD τ) arg1 q1 d1 ∗ owns (c : Thread nD τ) arg2 q2 d2 ∗ owns (c : Thread nD τ) arg3 q3 d3
          ∗ owns (c : Thread nD τ) arg5 fullShare (k0_pay1 (block ys P) d3) ∗ (∃ W, owes (c : Thread nD τ) 0 W)
          ∗ pending c ys (t.val + 1) P' (other t.val) ∗ free c ys (slot t.val)) -∗ Q ⟨⟩)
        -∗ wp frame (wpE (defs₀ (F := F)) Variants.none c none) Set.univ
          (cc0_gather (F := F) (grid0.coords t) arg1 harg1 arg2 harg2 arg3 harg3 ysM (Memref.isWhole_whole _) arg5 harg5 ybuf (Memref.isWhole_whole _) cc0_scratch1) Q) := by
  rw [cc0_gather_eq_skeleton]
  unfold cc0_gather_skel owns
  iintro ⟨⟨%f1, %e1, H1⟩, ⟨%f2, %e2, H2⟩, ⟨%f3, %e3, H3⟩, ⟨%d5, %f5, -, H5⟩, HW, HP, HF⟩ Hk
  subst e1 e2 e3
  rw [wp_bind]
  iapply (part_run c ys arg1 harg1 arg2 harg2 arg3 harg3 arg5 harg5 t P P' (f1 := f1) (f2 := f2) (f3 := f3) h1 h2) $$ [H1 H2 H3 HW HP HF]
  · isplitl [H1]; · iexact H1
    isplitl [H2]; · iexact H2
    isplitl [H3]; · iexact H3
    isplitl [HW]; · iexact HW
    isplitl [HP]; · iexact HP
    iexact HF
  iintro ⟨H1, H2, H3, HW, HP, HF⟩
  simp only [Prog.bind_op, Prog.bind_lift, Prog.bind_ret]
  sl_step
  sl_step
  sl_step
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H5]
  · iexists _; isplitr
    swap; · iexact H5
    ipureintro; exact View.read_writes_full arg5.view f5 inb_S512x1024_S512x1024_0_0 _ []
  isplitl [HW]; · iexact HW
  isplitl [HP]; · iexact HP
  iexact HF

end loops

end Cert.FetchIdeal.Fetched

end
-- ==== Proof.FetchLaunch.lean ====
/- The whole run of the call that fetches rows: what is held between the steps, and the launch. -/
module

public import proofs.«01_k».proof.Proof.FetchRun
public import proofs.«01_k».proof.Proof.Gen.FetchIdeal.Points
public import proofs.«01_k».proof.Proof.Gen.FetchIdeal.Launch
public import proofs.«01_k».proof.Proof.Gen.FetchIdeal.Frame

@[expose] public section

set_option maxRecDepth 16384

noncomputable section

namespace Cert.FetchIdeal.Fetched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN shareDrop)
open Idealize.ShloMosaic.Pipeline (Dat Cfg Window BodyObligation cellOf)
open Cert.FetchIdeal.Gen

variable {F : FTy → Type} [FloatOps F]

local notation "𝕄" => MT nD τ sig Unit (Elt F) ℕ (Pipeline.UD sig nD τ) ℕ

/-! ## Dealing the array and the slots out, and taking them back -/

section deal
variable (c : Dev nD) (ys : S61440x1024.Idx → Elt F .f32)

/-- The part of the scratch that is slot `s`. -/
abbrev slotSet (s : Fin 2) : Finset (S2x512x1024.Idx) := Finset.univ.biUnion (rowSet s)

theorem slots_disjoint (s s' : Fin 2) (h : s ≠ s') : Disjoint (slotSet s) (slotSet s') := by
  rw [Finset.disjoint_left]
  intro y hy hy'
  obtain ⟨j, -, hj⟩ := Finset.mem_biUnion.1 hy
  obtain ⟨j', -, hj'⟩ := Finset.mem_biUnion.1 hy'
  have a := (Rect.mem_set_unit.1 hj 0); have b := (Rect.mem_set_unit.1 hj' 0)
  change s.val ≤ _ ∧ _ < s.val + 1 at a
  change s'.val ≤ _ ∧ _ < s'.val + 1 at b
  exact h (Fin.ext (by omega))

theorem slots_cover : Finset.univ.biUnion slotSet = (Finset.univ : Finset (S2x512x1024.Idx)) :=
  Finset.eq_univ_of_forall fun y => Finset.mem_biUnion.2 ⟨y 0, Finset.mem_univ _, Finset.mem_biUnion.2 ⟨y 1, Finset.mem_univ _, mem_row rfl⟩⟩

theorem two {M : Type} [URA M] (Φ : Fin 2 → sProp M) : bigSep Finset.univ Φ = iprop(Φ 0 ∗ Φ 1) :=
  bigSep_univ_eq_bigSepL [(0 : Fin 2), 1] (by decide) (by decide) Φ

theorem scratch_deal (f : S2x512x1024.Idx → Elt F .f32) :
    (((c : Thread nD τ).loc cc0_scratch0) ↦{fullShare} f : sProp 𝕄)
      ⊢ iprop(bigSep Finset.univ (rowAny (F := F) c 0) ∗ bigSep Finset.univ (rowAny (F := F) c 1)) := by
  have one : ∀ s : Fin 2, (((c : Thread nD τ).loc cc0_scratch0) ↦[slotSet s]{fullShare} f : sProp 𝕄) ⊢ bigSep Finset.univ (rowAny (F := F) c s) := fun s => by
    rw [Ring.pointsTo_sub_blocks (Val := Elt F) (Name := ℕ) (U := Pipeline.UD sig nD τ) (Lvl := ℕ) (Ix := Unit) (ℓ := (c : Thread nD τ).loc cc0_scratch0) (rowSet s) (rows_disjoint s) _ rfl (q := fullShare) f]
    refine BI.bigSep_mono fun j _ => ?_
    show (((c : Thread nD τ).loc cc0_scratch0) ↦[rowSet s j]{fullShare} f : sProp 𝕄) ⊢ rowAny c s j
    unfold rowAny
    iintro H; iexists f; iexact H
  rw [Ring.pointsTo_blocks (Val := Elt F) (Name := ℕ) (U := Pipeline.UD sig nD τ) (Lvl := ℕ) (Ix := Unit) (ℓ := (c : Thread nD τ).loc cc0_scratch0) slotSet slots_disjoint slots_cover (q := fullShare) f, two]
  exact BI.sep_mono (one 0) (one 1)

theorem scratch_join :
    iprop(bigSep Finset.univ (rowAny (F := F) c 0) ∗ bigSep Finset.univ (rowAny (F := F) c 1))
      ⊢ (iprop(∃ f : S2x512x1024.Idx → Elt F .f32, ((c : Thread nD τ).loc cc0_scratch0) ↦{fullShare} f) : sProp 𝕄) := by
  let f0 : S2x512x1024.Idx → Elt F .f32 := fun _ => (FloatOps.ofBits .f32 0x00000000#32 : F .f32)
  have one : ∀ s : Fin 2, bigSep Finset.univ (rowAny (F := F) c s) ⊢ (iprop(∃ f : S2x512x1024.Idx → Elt F .f32, ((c : Thread nD τ).loc cc0_scratch0) ↦[slotSet s]{fullShare} f) : sProp 𝕄) := fun s =>
    Ring.pointsTo_sub_blocks_join_exists (Val := Elt F) (Name := ℕ) (U := Pipeline.UD sig nD τ) (Lvl := ℕ) (Ix := Unit) (ℓ := (c : Thread nD τ).loc cc0_scratch0) (rowSet s) (rows_disjoint s) _ rfl (q := fullShare) f0
  refine (BI.sep_mono (one 0) (one 1)).trans ?_
  have all := Ring.pointsTo_blocks_join_exists (Val := Elt F) (Name := ℕ) (U := Pipeline.UD sig nD τ) (Lvl := ℕ) (Ix := Unit) (ℓ := (c : Thread nD τ).loc cc0_scratch0) slotSet slots_disjoint slots_cover (q := fullShare) f0
  rw [two] at all
  exact all

/-- What is left of the array once its shares for the two slots' rows are dealt out. -/
def kept : sProp 𝕄 :=
  iprop((((c : Thread nD τ).loc main_arg0) ↦{shareDrop fullShare 2} ys)
    ∗ (((c : Thread nD τ).loc main_arg0) ↦{shareDrop (slotShare 0) 512} ys) ∗ (((c : Thread nD τ).loc main_arg0) ↦{shareDrop (slotShare 1) 512} ys))

theorem array_deal : (((c : Thread nD τ).loc main_arg0) ↦{fullShare} ys : sProp 𝕄)
    ⊢ iprop(kept c ys ∗ bigSep Finset.univ (tokAll (F := F) c ys 0) ∗ bigSep Finset.univ (tokAll (F := F) c ys 1)) := by
  refine (Transfers.pointsTo_toks_split fullShare 2).trans ?_
  rw [two]
  unfold kept
  iintro ⟨H, H0, H1⟩
  ihave K0 := (Transfers.pointsTo_toks_split (slotShare 0) 512) $$ [H0]
  · iexact H0
  ihave K1 := (Transfers.pointsTo_toks_split (slotShare 1) 512) $$ [H1]
  · iexact H1
  icases K0 with ⟨A0, B0⟩
  icases K1 with ⟨A1, B1⟩
  isplitl [H A0 A1]
  · isplitl [H]; · iexact H
    isplitl [A0]; · iexact A0
    iexact A1
  isplitl [B0]; · iexact B0
  iexact B1

theorem array_join : iprop(kept c ys ∗ bigSep Finset.univ (tokAll (F := F) c ys 0) ∗ bigSep Finset.univ (tokAll (F := F) c ys 1))
    ⊢ (((c : Thread nD τ).loc main_arg0) ↦{fullShare} ys : sProp 𝕄) := by
  have k0 := Transfers.pointsTo_toks_join (Ix := Unit) (Name := ℕ) (U := Pipeline.UD sig nD τ) (Lvl := ℕ) (ℓ := (c : Thread nD τ).loc main_arg0) (S := Finset.univ) (f := ys) (slotShare 0) 512
  have k1 := Transfers.pointsTo_toks_join (Ix := Unit) (Name := ℕ) (U := Pipeline.UD sig nD τ) (Lvl := ℕ) (ℓ := (c : Thread nD τ).loc main_arg0) (S := Finset.univ) (f := ys) (slotShare 1) 512
  have k := Transfers.pointsTo_toks_join (Ix := Unit) (Name := ℕ) (U := Pipeline.UD sig nD τ) (Lvl := ℕ) (ℓ := (c : Thread nD τ).loc main_arg0) (S := Finset.univ) (f := ys) fullShare 2
  rw [two] at k
  unfold kept
  iintro ⟨⟨H, A0, A1⟩, B0, B1⟩
  iapply k
  isplitl [H]; · iexact H
  isplitl [A0 B0]
  · iapply k0
    isplitl [A0]; · iexact A0
    iexact B0
  · iapply k1
    isplitl [A1]; · iexact A1
    iexact B1

end deal

/-! ## Between the steps -/

variable (m : (ℓ : Loc nD τ sig) → Buf (Elt F) ℓ) (ρ : Dev nD → PrngReg)

/-- The rows that block `n` of the positions names. -/
def rows (c : Dev nD) (n : ℕ) (j : Fin 512) : Fin 61440 :=
  ⟨((m ((c.tc : Thread nD τ).loc main_arg1) : S1x32768.Idx → BitVec 32) (ix2 (0 : Fin 1) (⟨(512 * n + j.val) % 32768, Nat.mod_lt _ (by decide)⟩ : Fin 32768))).toNat % 61440, Nat.mod_lt _ (by decide)⟩

/-- Every position is the number of a row. -/
def Placed : Prop := ∀ (c : Dev nD) (i : Fin 32768), ((m ((c.tc : Thread nD τ).loc main_arg1) : S1x32768.Idx → BitVec 32) (ix2 (0 : Fin 1) i)).toNat < 61440

/-- What is held before step `n`. -/
def Held (c : Dev nD) (n : ℕ) : sProp 𝕄 :=
  iprop((∃ r, prngReg c r) ∗ kept c (V m c main_arg0) ∗ pending c (V m c main_arg0) n (rows m c n) (slot n) ∗ free c (V m c main_arg0) (other n))

/-- Step `t`'s block of the result. -/
def outAt (c : Dev nD) (t : Fin cfg0.N) : Vec F S512x1024 .f32 := k0_pay1 (block (V m c main_arg0) (rows m c t.val)) (iblk m c 2 t)

/-- The pipeline's data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Held m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = outAt m c t := by dsimp only [dats]; try rfl

theorem found_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem found_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem found_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The words that a step reads -/

theorem coords_val : ∀ t : Fin grid0.N, (grid0.coords t 0).val = t.val := by decide +kernel
theorem index0 : ∀ t : Fin grid0.N, cc0_transform_0 (grid0.coords t) 1 = t.val := by decide +kernel
theorem index1 : ∀ t : Fin grid0.N, t.val + 1 ≠ 64 → cc0_transform_1 (grid0.coords t) 1 = t.val + 1 := by decide +kernel

theorem word0 (c : Dev nD) (t : Fin cfg0.N) (j : Fin 512) :
    (iblk m c 0 t : S1x512.Idx → BitVec 32) (ix2 (0 : Fin 1) j)
      = (m ((c.tc : Thread nD τ).loc main_arg1) : S1x32768.Idx → BitVec 32) (ix2 (0 : Fin 1) (⟨(512 * t.val + j.val) % 32768, Nat.mod_lt _ (by decide)⟩ : Fin 32768)) := by
  show V m c main_arg1 (((cfg0.win 0).rect t).emb (ix2 (0 : Fin 1) j)) = _
  rw [V_main_arg1]
  refine congrArg (m ((c.tc : Thread nD τ).loc main_arg1) : S1x32768.Idx → BitVec 32) (funext fun (a : Fin 2) => Fin.ext ?_)
  refine (Pipeline.Window.rect_emb_val (cfg0.win 0) t _ a).trans ?_
  have hN : t.val < 64 := N_0 ▸ t.isLt
  fin_cases a
  · rfl
  · refine (congrArg (· * 512 + j.val) (index0 t)).trans ?_
    show t.val * 512 + j.val = (512 * t.val + j.val) % 32768
    omega

theorem word1 (c : Dev nD) (t : Fin cfg0.N) (h : t.val + 1 ≠ 64) (j : Fin 512) :
    (iblk m c 1 t : S1x512.Idx → BitVec 32) (ix2 (0 : Fin 1) j)
      = (m ((c.tc : Thread nD τ).loc main_arg1) : S1x32768.Idx → BitVec 32) (ix2 (0 : Fin 1) (⟨(512 * (t.val + 1) + j.val) % 32768, Nat.mod_lt _ (by decide)⟩ : Fin 32768)) := by
  show V m c main_arg1 (((cfg0.win 1).rect t).emb (ix2 (0 : Fin 1) j)) = _
  rw [V_main_arg1]
  refine congrArg (m ((c.tc : Thread nD τ).loc main_arg1) : S1x32768.Idx → BitVec 32) (funext fun (a : Fin 2) => Fin.ext ?_)
  refine (Pipeline.Window.rect_emb_val (cfg0.win 1) t _ a).trans ?_
  have hN : t.val < 64 := N_0 ▸ t.isLt
  fin_cases a
  · rfl
  · refine (congrArg (· * 512 + j.val) (index1 t h)).trans ?_
    show (t.val + 1) * 512 + j.val = (512 * (t.val + 1) + j.val) % 32768
    omega

theorem slot_next (n : ℕ) : slot (n + 1) = other n := Fin.ext (show (n + 1) % 2 = 1 - n % 2 by omega)
theorem other_next (n : ℕ) : other (n + 1) = slot n := Fin.ext (show 1 - (n + 1) % 2 = n % 2 by omega)

/-! ## The body at a step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 2000000 in
theorem sound_body (hP : Placed m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2]
  rw [show (dats m 0 c).Φ t.castSucc = Held m c t.val from rfl, show (dats m 0 c).Φ t.succ = Held m c (t.val + 1) from rfl, after_0, after_1, after_2, after_3]
  unfold Dat.owesAt Pipeline.owesWithin
  rw [show (dats m 0 c).owed t.castSucc = 0 from rfl, show (dats m 0 c).owed t.succ = 0 from rfl]
  unfold Held outAt
  rw [slot_next, other_next]
  iintro ⟨⟨Hg, HK, HP, HF⟩, ⟨%W, -, HW⟩, ⟨%d0, H0⟩, ⟨%d1, H1⟩, ⟨%d2, H2⟩, ⟨%d3, H3⟩⟩
  iapply (body_run c (V m c main_arg0) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) t (rows m c t.val) (rows m c (t.val + 1))
    (d1 := iblk m c 0 t) (d2 := iblk m c 1 t) (d3 := iblk m c 2 t)
    (fun _ j => (congrArg BitVec.toNat (word0 m c t j)).trans (Nat.mod_eq_of_lt (hP c _)).symm)
    (fun h j => (congrArg BitVec.toNat (word1 m c t h j)).trans (Nat.mod_eq_of_lt (hP c _)).symm)) $$ [H0 H1 H2 H3 HW HP HF]
  · isplitl [H0]; · iexact H0
    isplitl [H1]; · iexact H1
    isplitl [H2]; · iexact H2
    isplitl [H3]; · iexists _; iexact H3
    isplitl [HW]; · iexists W; iexact HW
    isplitl [HP]; · iexact HP
    iexact HF
  iintro ⟨H0, H1, H2, H3, ⟨%W', HW⟩, HP, HF⟩
  isplitl [Hg HK HP HF]
  · isplitl [Hg]; · iexact Hg
    isplitl [HK]; · iexact HK
    isplitl [HP]; · iexact HP
    iexact HF
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (hP : Placed m) (c : Dev nD) : BodyObligation (dats (F := F) m 0 c) (defs₀ (F := F)) Variants.none () Set.univ := fun t => by
  rw [bigSep_W0, bigSep_W0, defs₀_row]
  exact triple_restated (sound_body m hP c t) rfl .rfl fun _ => .rfl

/-! ## The launch -/

abbrev osem0 : Fin 2 → SemLoc sig := fun s => .dma (slotSem s)
theorem ownSemFacts0 : Pipeline.OwnSemFacts spec0 osem0 := by decide
theorem ownSems0_two (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (slotSem 0)) 0 ∗ semVal ((c : Thread nD τ), .dma (slotSem 1)) 0) := by
  rw [Pipeline.ownSems0_eq_of_list c osem0 [0, 1] (by decide) (by decide)]; rfl
def H0 : Finset (Ref sig .tc) := {main_arg0}
theorem H0_sub : H0 ⊆ Pipeline.restRefs sig spec0 := by decide
theorem H0_eq (c : Dev nD) :
    (bigSep H0 (fun b => ((c : Thread nD τ).loc b) ↦{fullShare} V m c b) : sProp 𝕄) = (((c : Thread nD τ).loc main_arg0) ↦{fullShare} V m c main_arg0) := by
  rw [BI.bigSep_eq_bigSepL_of_eq [main_arg0] (by decide) (by decide)]; rfl

theorem PhiD_eq (c : Dev nD) : (Pipeline.ΦD osem0 spec0 H0 (V m) c : sProp 𝕄)
    = iprop((∃ f : S2x512x1024.Idx → Elt F .f32, ((c : Thread nD τ).loc cc0_scratch0) ↦{fullShare} f) ∗ (∃ r, prngReg c r)
        ∗ iprop(semVal ((c : Thread nD τ), .dma (slotSem 0)) 0 ∗ semVal ((c : Thread nD τ), .dma (slotSem 1)) 0)
        ∗ (((c : Thread nD τ).loc main_arg0) ↦{fullShare} V m c main_arg0)) := by
  rw [Pipeline.ΦD_eq, scopedRest0_eq, ownSems0_two, H0_eq]; rfl

theorem enters (c : Dev nD) : Pipeline.ΦD osem0 spec0 H0 (V m) c ⊢ (dats m 0 c).Φ 0 := by
  rw [show (dats m 0 c).Φ 0 = Held m c 0 from rfl, PhiD_eq]
  unfold Held pending
  rw [if_pos (Or.inl rfl), show slot 0 = 0 from rfl, show other 0 = 1 from rfl]
  unfold free
  iintro ⟨⟨%f, Hf⟩, Hg, ⟨S0, S1⟩, HY⟩
  ihave Hf := (scratch_deal c f) $$ Hf
  ihave HY := (array_deal c (V m c main_arg0)) $$ HY
  icases Hf with ⟨R0, R1⟩
  icases HY with ⟨HK, T0, T1⟩
  isplitl [Hg]; · iexact Hg
  isplitl [HK]; · iexact HK
  isplitl [S0 R0 T0]
  · isplitl [S0]; · iexact S0
    isplitl [R0]; · iexact R0
    iexact T0
  isplitl [S1]; · iexact S1
  isplitl [R1]; · iexact R1
  iexact T1

theorem leaves (c : Dev nD) : (dats m 0 c).Φ (Fin.last cfg0.N) ⊢ Pipeline.ΦD osem0 spec0 H0 (V m) c := by
  rw [show (dats m 0 c).Φ (Fin.last cfg0.N) = Held m c 64 from congrArg (Held m c) (N_0 : cfg0.N = 64), PhiD_eq]
  unfold Held pending
  rw [if_pos (Or.inr rfl), show slot 64 = 0 from rfl, show other 64 = 1 from rfl]
  unfold free
  iintro ⟨Hg, HK, ⟨S0, R0, T0⟩, S1, R1, T1⟩
  isplitl [R0 R1]
  · iapply (scratch_join c)
    isplitl [R0]; · iexact R0
    iexact R1
  isplitl [Hg]; · iexact Hg
  isplitl [S0 S1]
  · isplitl [S0]; · iexact S0
    iexact S1
  iapply (array_join c (V m c main_arg0))
  isplitl [HK]; · iexact HK
  isplitl [T0]; · iexact T0
  iexact T1

set_option backward.isDefEq.respectTransparency.types false in
/-- Every run ends, with the arrays at what the blocks make them and every counter at zero. -/
theorem launch (hP : Placed m) : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hP c).loose) (hq := fun _ _ _ => rfl)
    (howed := fun _ _ => rfl) (V := V m)
    (hmain := Pipeline.hmain_prefix cfgs 0 defs₀ Variants.none m main hostOps0 hostOps0_sub hostOps0_fresh main_chain) (hA := A_eq m)
    (hin := enters m) (hout := leaves m)

/-- The run's end: the result array, the unchanged arguments, the counters. -/
theorem run_end (hP : Placed m) : θ_run defs (onTc (τ := τ) (main (F := F))) ⟨m, fun _ => 0, ρ⟩ (fun r => (∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 3,
    ((h.1 c).2 main_arg0 (Pipeline.mem_restRefs_of main_arg0 (by decide) (by decide))).trans (V_main_arg0 m c),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c)⟩, h.2⟩) (launch m ρ hP)

/-- The same without the result. -/
theorem frame_end (hP : Placed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_end m ρ hP)

end Cert.FetchIdeal.Fetched

end
-- ==== Proof.FetchValue.lean ====
/- The rows fetched: a step normalises the rows that its block of the positions names, the steps' blocks make the whole
   array, and the reference normalises the same rows. -/
module

public import proofs.«01_k».proof.Proof.FetchLaunch
public import proofs.«01_k».proof.Proof.Mix
public import proofs.«01_k».proof.Proof.Gen.NormedIdeal.Run
public import proofs.«01_k».proof.Proof.Gen.Pre_placed
public import Idealize.ShloMosaic.Lib.Pointwise
public import Idealize.ShloMosaic.Lib.IdealHost
public import Idealize.ShloMosaic.Lib.WordCmp
public import Idealize.ShloMosaic.Lib.ValueIdx
public import Idealize.ShloMosaic.Lib.ReduceAll
public import Idealize.ShloMosaic.Lib.Routing.Ops

@[expose] public section

set_option maxRecDepth 16384

noncomputable section

namespace Cert.FetchIdeal.Fetched

open Idealize.ShloMosaic Idealize.ShloMosaic.TcCoe Idealize.ShloMosaic.Pointwise
open Idealize.ShloMosaic.WordCmp
open Idealize.ShloMosaic.Pipeline (Dat Window)
open Cert.FetchIdeal.Gen

/-! ## The precondition -/

theorem place_lt (x : BitVec 32) (h0 : IntOp.cmpi .sge x 0#32 = 1#1) (h1 : IntOp.cmpi .slt x 61440#32 = 1#1) : x.toNat < 61440 := by
  rw [cmpi_sge_zero, ofBool_decide_eq_one_iff] at h0
  rw [cmpi_slt_eq, ofBool_decide_eq_one_iff, toInt_eq_toNat_of_lt_half h0] at h1
  have : (61440#32 : BitVec 32).toInt = 61440 := by decide
  omega

theorem placed_parts {F : FTy → Type} [FloatOps F] (a0 : FVec F S61440x1024 .f32) (a1 : IVec S1x32768 32) (a2 : FVec F S1024 .f32)
    (h : Cert.Pre_placed.fn (F := F) a0 a1 a2 = fun _ => 1#1) : ∀ y, (a1 y).toNat < 61440 := by
  haveI : Subsingleton Cert.Pre_placed.S_.Idx := ⟨fun a b => funext fun i => i.elim0⟩
  have e := congrFun h (fun i => i.elim0)
  unfold Cert.Pre_placed.fn at e
  simp only [andi_at] at e
  obtain ⟨e1, e2⟩ := IntOp.andi_eq_one.1 e
  have g1 := Host.reduce_andi_all _ _ _ _ _ e1
  have g2 := Host.reduce_andi_all _ _ _ _ _ e2
  exact fun y => place_lt _ (g1 y) (g2 y)

/-! ## A step's block -/

theorem pay_at (x : Vec Ideal S1x512x1024 .f32) (g : Vec Ideal S1x1024 .f32) (r : Fin 512) (k : Fin 1024) :
    k0_pay1 (F := Ideal) x g (ix2 r k) = Mix.normed (fun d => x (ix3 (0 : Fin 1) r d)) (fun d => g (ix2 (0 : Fin 1) d)) k := by
  pointwise [k0_pay1, Mix.normed]

variable (m : (ℓ : Loc nD τ sig) → Buf (Elt Ideal) ℓ)

/-- The row that position `R` names. -/
def named (c : Dev nD) (R : Fin 32768) : Fin 61440 :=
  ⟨((m ((c.tc : Thread nD τ).loc main_arg1) : S1x32768.Idx → BitVec 32) (ix2 (0 : Fin 1) R)).toNat % 61440, Nat.mod_lt _ (by decide)⟩

/-- The result as a function of the arrays that the call is made with. -/
def fetched (c : Dev nD) : S32768x1024.Idx → EReal := fun i =>
  Mix.normed (fun d => (m ((c.tc : Thread nD τ).loc main_arg0) : S61440x1024.Idx → EReal) (ix2 (named m c (i 0)) d))
    (fun d => (m ((c.tc : Thread nD τ).loc main_arg2) : S1024.Idx → EReal) (ix1 d)) (i 1)

/-- Row `r` of block `t`. -/
abbrev rowAt (t : Fin cfg0.N) (r : Fin 512) : Fin 32768 := ⟨t.val * 512 + r.val, by have := lt_of_lt_of_eq t.isLt N_0; omega⟩

theorem rows_named (c : Dev nD) (t : Fin cfg0.N) (r : Fin 512) : rows m c t.val r = named m c (rowAt t r) := by
  have hN := lt_of_lt_of_eq t.isLt N_0
  have e : (⟨(512 * t.val + r.val) % 32768, Nat.mod_lt _ (by decide)⟩ : Fin 32768) = rowAt t r :=
    Fin.ext (show (512 * t.val + r.val) % 32768 = t.val * 512 + r.val by omega)
  exact congrArg (named m c) e

theorem V_weight (c : Dev nD) : V m c main_v0 = (shapeCast S1x1024 (m ((c.tc : Thread nD τ).loc main_arg2) : S1024.Idx → EReal) shapeCasts_S1024_S1x1024 : S1x1024.Idx → EReal) := by
  show StableHlo.after hostOps0 _ main_v0 = _
  after_results <;> rfl

theorem blk2 (c : Dev nD) (t : Fin cfg0.N) (k : Fin 1024) :
    iblk m c 2 t (ix2 (0 : Fin 1) k) = (m ((c.tc : Thread nD τ).loc main_arg2) : S1024.Idx → EReal) (ix1 k) := by
  have e : (((cfg0.win 2).rect t).emb (ix2 (0 : Fin 1) k) : S1x1024.Idx) = ix2 (0 : Fin 1) k := by
    refine funext fun (a : Fin 2) => Fin.ext ?_
    refine (Pipeline.Window.rect_emb_val (cfg0.win 2) t _ a).trans ?_
    fin_cases a
    · rfl
    · show 0 * 1024 + k.val = k.val; omega
  show V m c main_v0 (((cfg0.win 2).rect t).emb (ix2 (0 : Fin 1) k)) = _
  rw [e, V_weight]
  pointwise

theorem out_at (c : Dev nD) (t : Fin cfg0.N) (r : Fin 512) (k : Fin 1024) : outAt m c t (ix2 r k) = fetched m c (ix2 (rowAt t r) k) := by
  unfold outAt
  refine (pay_at _ _ r k).trans ?_
  simp only [blk2]
  show Mix.normed (fun d => V m c main_arg0 (ix2 (rows m c t.val r) d)) _ k = _
  rw [V_main_arg0, rows_named]
  rfl

theorem point (t : Fin cfg0.N) : (BitVec.ofNat 32 (grid0.coords t 0).val).toNat = t.val := by
  rw [coords_val]; exact WordCmp.toNat_ofNat_of_lt (by have := lt_of_lt_of_eq t.isLt N_0; omega)

theorem emb3 (t : Fin cfg0.N) (r : Fin 512) (k : Fin 1024) : (((cfg0.win 3).rect t).emb (ix2 r k) : S32768x1024.Idx) = ix2 (rowAt t r) k := by
  refine funext fun (a : Fin 2) => Fin.ext ?_
  refine (Pipeline.Window.rect_emb_val (cfg0.win 3) t _ a).trans ?_
  fin_cases a
  · exact congrArg (· * 512 + r.val) (point t)
  · show 0 * 1024 + k.val = k.val; omega

theorem cut3 (O : S512x1024.Idx → EReal) (G : S32768x1024.Idx → EReal) (t : Fin cfg0.N)
    (h : ∀ (r : Fin 512) (k : Fin 1024), O (ix2 r k) = G (((cfg0.win 3).rect t).emb (ix2 r k))) :
    (cfg0.win 3).cut (grid0.coords t) O = ((cfg0.win 3).blk t).view.read (Elt Ideal) G := by
  have e : ∀ y : S512x1024.Idx, O y = G (((cfg0.win 3).rect t).emb y) := fun y => by
    idx_vars y
    exact h _ _
  exact funext e

/-- The 64 blocks make the whole array. -/
theorem value (c : Dev nD) : (dats m 0 c).arrAt 3 cfg0.N = fetched m c :=
  (dats m 0 c).arrAt_eq_of_cover 3 (fetched m c)
    (fun t _ => (congrArg ((cfg0.win 3).cut (grid0.coords t)) (after_3 m c t)).trans (cut3 _ _ t fun r k => by rw [emb3, out_at]))
    (fun i => by
      obtain ⟨R, k, rfl⟩ : ∃ (R : Fin 32768) (k : Fin 1024), i = ix2 R k := ⟨i 0, i 1, eq_ix2 i⟩
      have hN : R.val / 512 < cfg0.N := lt_of_lt_of_eq (by omega : R.val / 512 < 64) N_0.symm
      refine ⟨⟨R.val / 512, hN⟩, flush0_3 _, ?_⟩
      have hR : rowAt ⟨R.val / 512, hN⟩ ⟨R.val % 512, Nat.mod_lt _ (by decide)⟩ = R := Fin.ext (show R.val / 512 * 512 + R.val % 512 = R.val by omega)
      rw [show (ix2 R k : S32768x1024.Idx) = ((cfg0.win 3).rect ⟨R.val / 512, hN⟩).emb (ix2 ⟨R.val % 512, Nat.mod_lt _ (by decide)⟩ k) from
        ((emb3 _ _ _).trans (congrArg (fun R' => ix2 R' k) hR)).symm]
      exact View.emb_mem_set _ _)

/-! ## The reference -/

/-- The reference's rows: those that the positions name. -/
abbrev taken (x : S61440x1024.Idx → EReal) (p : S1x32768.Idx → BitVec 32) : FVec Ideal S32768x1024 .f32 :=
  Host.gather Cert.NormedIdeal.gather_S61440x1024_S32768x1_S32768x1024_1_0_n_n_0_1_11024 x
    (broadcastInDim Cert.NormedIdeal.S32768x1 ![0] Cert.NormedIdeal.Gen.bcast_S32768_S32768x1_0
      (shapeCast Cert.NormedIdeal.S32768 p Cert.NormedIdeal.Gen.shapeCasts_S1x32768_S32768))

/-- Its lines on rows in hand. -/
abbrev scaled (y : FVec Ideal S32768x1024 .f32) (g : FVec Ideal S1024 .f32) : FVec Ideal S32768x1024 .f32 :=
  mulf (mulf y (broadcastInDim Cert.NormedIdeal.S32768x1024 ![0, 1] Cert.NormedIdeal.Gen.bcast_S32768x1_S32768x1024_0_1
    (Host.rsqrt (addf (Host.divf (broadcastInDim Cert.NormedIdeal.S32768x1 ![0] Cert.NormedIdeal.Gen.bcast_S32768_S32768x1_0
      (Host.reduceAdd (mulf y y) (constant Cert.NormedIdeal.S_ .f32 0x00000000#32) Cert.NormedIdeal.Gen.reducesTo_S32768x1024_S32768_d1 Cert.NormedIdeal.Gen.h_S_))
      (broadcastInDim Cert.NormedIdeal.S32768x1 ![] Cert.NormedIdeal.Gen.bcast_S_S32768x1 (constant Cert.NormedIdeal.S_ .f32 0x44800000#32)))
      (broadcastInDim Cert.NormedIdeal.S32768x1 ![] Cert.NormedIdeal.Gen.bcast_S_S32768x1 (constant Cert.NormedIdeal.S_ .f32 0x358637BD#32))))))
    (broadcastInDim Cert.NormedIdeal.S32768x1024 ![0, 1] Cert.NormedIdeal.Gen.bcast_S1x1024_S32768x1024_0_1
      (broadcastInDim Cert.NormedIdeal.S1x1024 ![1] Cert.NormedIdeal.Gen.bcast_S1024_S1x1024_1 g))

theorem scaled_at (y : S32768x1024.Idx → EReal) (g : S1024.Idx → EReal) (R : Fin 32768) (k : Fin 1024) :
    scaled y g (ix2 R k) = Mix.normed (fun d => y (ix2 R d)) (fun d => g (ix1 d)) k := by
  pointwise [scaled, Mix.normed]

theorem taken_at (x : S61440x1024.Idx → EReal) (p : S1x32768.Idx → BitVec 32) (R : Fin 32768) (k : Fin 1024)
    (b : Fin 61440) (hb : (p (ix2 (0 : Fin 1) R)).toNat = b.val) : taken x p (ix2 R k) = x (ix2 b k) := by
  refine Routing.gather_row (nb := 61440) (B := 1024) (n := 32768) _ rfl rfl rfl rfl rfl x _ R k b ?_ (by decide)
  have e : (broadcastInDim Cert.NormedIdeal.S32768x1 ![0] Cert.NormedIdeal.Gen.bcast_S32768_S32768x1_0
      (shapeCast Cert.NormedIdeal.S32768 p Cert.NormedIdeal.Gen.shapeCasts_S1x32768_S32768)) (ix2 R (0 : Fin 1)) = p (ix2 (0 : Fin 1) R) := by
    pointwise
  refine e.trans (BitVec.eq_of_toNat_eq ?_)
  rw [hb, BitVec.toNat_ofNat, Nat.mod_eq_of_lt (lt_trans b.isLt (by decide))]

/-- The reference's result is the same function of the same arrays. -/
theorem reference_value (hP : Placed m) (c : Dev nD) (x : S61440x1024.Idx → EReal) (p : S1x32768.Idx → BitVec 32) (g : S1024.Idx → EReal)
    (hx : x = m ((c.tc : Thread nD τ).loc main_arg0)) (hp : p = m ((c.tc : Thread nD τ).loc main_arg1)) (hg : g = m ((c.tc : Thread nD τ).loc main_arg2)) :
    scaled (taken x p) g = fetched m c := by
  subst hx hp hg
  have e : ∀ (R : Fin 32768) (k : Fin 1024), scaled (taken (m ((c.tc : Thread nD τ).loc main_arg0)) (m ((c.tc : Thread nD τ).loc main_arg1))) (m ((c.tc : Thread nD τ).loc main_arg2)) (ix2 R k)
      = fetched m c (ix2 R k) := fun R k => by
    refine (scaled_at _ _ R k).trans ?_
    simp only [fun d => taken_at (m ((c.tc : Thread nD τ).loc main_arg0)) (m ((c.tc : Thread nD τ).loc main_arg1)) R d (named m c R) (Nat.mod_eq_of_lt (hP c R)).symm]
    rfl
  exact funext fun i => (congrArg _ (eq_ix2 i)).trans ((e (i 0) (i 1)).trans (congrArg _ (eq_ix2 i).symm))

end Cert.FetchIdeal.Fetched

end
-- ==== Proof.FetchWords.lean ====
/- The rows fetched, at the machine's words: the two texts of the call are one text under two names. -/
module

public import proofs.«01_k».proof.Defs
public import proofs.«01_k».proof.Proof.Gen.Fetch
public import proofs.«01_k».proof.Proof.FetchValue

@[expose] public section

set_option maxRecDepth 16384

noncomputable section

namespace Cert.Fetched

open Idealize.ShloMosaic Idealize.SL.Sem Cert.Fetch

theorem placed_bits (m : (ℓ : Loc nD τ sig) → Buf (Elt Bits) ℓ) (h : Cert.Pre_Fetch m) : Cert.FetchIdeal.Fetched.Placed (F := Bits) m :=
  fun c i => Cert.FetchIdeal.Fetched.placed_parts (F := Bits) _ _ _ (h c) (ix2 (0 : Fin 1) i)

set_option maxHeartbeats 8000000 in
set_option smartUnfolding false in
/-- What holds of the runs of the one text holds of the runs of the other. -/
theorem of_ideal {s : MemSt nD τ sig (Elt Bits)} {Q : PUnit × MemSt nD τ sig (Elt Bits) → Prop}
    (h : θ_run (Cert.FetchIdeal.defs (F := Bits)) (onTc (τ := τ) (Cert.FetchIdeal.main (F := Bits))) s Q) :
    θ_run (defs (F := Bits)) (onTc (τ := τ) (main (F := Bits))) s Q := h

theorem frame_fetch : Cert.quiescent_Fetch := fun m g h =>
  of_ideal (Cert.FetchIdeal.Fetched.frame_end (F := Bits) m g (placed_bits m h))

end Cert.Fetched

end
-- ==== Proof.lean ====
/- The claims: the two frames of a kernel are the one run of it at the machine's words and at the extended reals, a
   reference's frame is its run, and the results agree by the value of a tile's or a block's row. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_listed
public import proofs.«01_k».proof.Proof.Gen.Pre_routed
public import proofs.«01_k».proof.Proof.Gen.Outproj.Frame
public import proofs.«01_k».proof.Proof.Gen.OutprojIdeal.Value
public import proofs.«01_k».proof.Proof.Gen.MixedIdeal.Run
public import proofs.«01_k».proof.Proof.Gen.Fetch
public import proofs.«01_k».proof.Proof.Gen.FetchIdeal
public import proofs.«01_k».proof.Proof.Gen.NormedIdeal
public import proofs.«01_k».proof.Proof.Gen.NormedIdeal.Run
public import proofs.«01_k».proof.Proof.Gen.Pre_placed
public import proofs.«01_k».proof.Proof.Words
public import proofs.«01_k».proof.Proof.Value
public import proofs.«01_k».proof.Proof.Dense
public import proofs.«01_k».proof.Proof.Joined
public import proofs.«01_k».proof.Proof.FetchValue
public import proofs.«01_k».proof.Proof.FetchWords
public import Idealize.ShloMosaic.Lib.Quiescent

@[expose] public section

set_option maxRecDepth 16384

noncomputable section

namespace Cert.Proof

open Idealize.ShloMosaic Idealize.ShloMosaic.TcCoe Idealize.ShloMosaic.Pointwise Idealize.SL.Sem

theorem fits_listed (m : (ℓ : Loc Cert.KernelIdeal.nD Cert.KernelIdeal.τ Cert.KernelIdeal.sig) → Buf (Elt Ideal) ℓ) (h : Cert.Pre_KernelIdeal m) :
    Cert.KernelIdeal.Experts.Fits (F := Ideal) m :=
  have e := Cert.KernelIdeal.Experts.listed_parts (F := Ideal) _ _ _ _ _ _ _ _ (h 0)
  Cert.KernelIdeal.Experts.fits_of m e.1 e.2

theorem fits_ideal (m : (ℓ : Loc Cert.KernelIdeal.nD Cert.KernelIdeal.τ Cert.KernelIdeal.sig) → Buf (Elt Ideal) ℓ) (h : Cert.Pre_KernelIdeal_routed m) :
    Cert.KernelIdeal.Experts.Fits (F := Ideal) m :=
  have e := Cert.KernelIdeal.Experts.pre_parts (F := Ideal) _ _ _ _ _ _ _ _ (h 0)
  Cert.KernelIdeal.Experts.fits_of m e.1 e.2.1

theorem frame_ideal : Cert.quiescent_KernelIdeal := fun m g h =>
  Cert.KernelIdeal.Experts.frame_end m g (fits_listed m h)

theorem frame_ideal_routed : Cert.quiescent_KernelIdeal_pre_routed := fun m g h =>
  Cert.KernelIdeal.Experts.frame_end m g (fits_ideal m h)

theorem frame_reference : Cert.quiescent_ReferenceIdeal := fun m g _ =>
  (θ_run _ _ _).mono (fun _ r => ⟨fun c => (r c).2, sem_eq_zero_of_no_sems rfl _⟩) (Cert.ReferenceIdeal.Value.run m g)

/-- The two gates of a row, as the precondition bounds them. -/
theorem gates_of (a0 : Mix.Rows.Idx → EReal)
    (hl : ∀ y, FloatOps.cmpf .oge (Cert.KernelIdeal.Experts.gates (F := Ideal) a0 y) (FloatOps.ofBits .f32 0x00000000#32 : Ideal .f32) = 1#1)
    (hu : ∀ y, FloatOps.cmpf .olt (Cert.KernelIdeal.Experts.gates (F := Ideal) a0 y) (FloatOps.ofBits .f32 0x7F800000#32 : Ideal .f32) = 1#1)
    (R : Fin 61440) : (0 ≤ Mix.gate0 a0 R ∧ 0 ≤ Mix.gate1 a0 R) ∧ Mix.gate0 a0 R ≠ ⊤ ∧ Mix.gate1 a0 R ≠ ⊤ := by
  have e0 : Cert.KernelIdeal.Experts.gates (F := Ideal) a0 (ix2 R (0 : Fin 2)) = Mix.gate0 a0 R := by
    pointwise [Cert.KernelIdeal.Experts.gates]
    rfl
  have e1 : Cert.KernelIdeal.Experts.gates (F := Ideal) a0 (ix2 R (1 : Fin 2)) = Mix.gate1 a0 R := by
    pointwise [Cert.KernelIdeal.Experts.gates]
    rfl
  have l0 := hl (ix2 R (0 : Fin 2))
  have l1 := hl (ix2 R (1 : Fin 2))
  have u0 := hu (ix2 R (0 : Fin 2))
  have u1 := hu (ix2 R (1 : Fin 2))
  rw [e0] at l0 u0
  rw [e1] at l1 u1
  have low : ∀ x : EReal, FloatOps.cmpf (F := Ideal) (φ := .f32) .oge x (FloatOps.ofBits .f32 0x00000000#32 : Ideal .f32) = 1#1 → 0 ≤ x := fun x h => by
    have h' : (FloatOps.ofBits .f32 0x00000000#32 : Ideal .f32) ≤ x := (WordCmp.ofBool_decide_eq_one_iff _).mp h
    rwa [show (FloatOps.ofBits .f32 0x00000000#32 : Ideal .f32) = 0 from Ideal.ofBits_zero_f32] at h'
  have high : ∀ x : EReal, FloatOps.cmpf (F := Ideal) (φ := .f32) .olt x (FloatOps.ofBits .f32 0x7F800000#32 : Ideal .f32) = 1#1 → x ≠ ⊤ := fun x h => by
    have h' : x < (FloatOps.ofBits .f32 0x7F800000#32 : Ideal .f32) := (WordCmp.ofBool_decide_eq_one_iff _).mp h
    exact ne_top_of_lt h'
  exact ⟨⟨low _ l0, low _ l1⟩, high _ u0, high _ u1⟩

/-- The reference's result is the function of the arrays that the kernel's is. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_routed m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v106 m' c = Cert.KernelIdeal.Experts.asked m c := by
  have p := Cert.KernelIdeal.Experts.pre_parts (F := Ideal) _ _ _ _ _ _ _ _ (h c)
  have g := gates_of _ p.2.2.1 p.2.2.2
  have e : ∀ (R : Fin 61440) (k : Fin 1024), Cert.ReferenceIdeal.Value.res_main_v106 m' c (ix2 R k) = Cert.KernelIdeal.Experts.asked m c (ix2 R k) :=
    fun R k => Cert.ReferenceIdeal.Experts.value_at m' c _ _ _ _ _ _ _ _ e0 e1 e2 e3 e4 e5 e6 e7 p.1 p.2.1
      (fun R => (g R).1.1) (fun R => (g R).1.2) (fun R => (g R).2.1) (fun R => (g R).2.2) R k
  exact funext fun i => (congrArg _ (eq_ix2 i)).trans ((e (i 0) (i 1)).trans (congrArg _ (eq_ix2 i).symm))

theorem algebraic : Cert.algebraic_KernelIdeal_ReferenceIdeal_pre_routed := fun m g m' g' h hag =>
  ⟨fun c => Cert.KernelIdeal.Experts.asked m c,
    (θ_run _ _ _).mono (fun _ r c => ⟨(r.1 c).1.trans (Cert.KernelIdeal.Experts.value m (fits_ideal m h) c), (r.1 c).2⟩)
      (Cert.KernelIdeal.Experts.run_end m g (fits_ideal m h)),
    (θ_run _ _ _).mono (fun _ r c => by
      obtain ⟨e0, e1, e2, e3, e4, e5, e6, e7⟩ := hag c
      exact ⟨(r c).1.trans (reference_value m m' h c e0 e1 e2 e3 e4 e5 e6 e7), (r c).2⟩)
      (Cert.ReferenceIdeal.Value.run m' g')⟩

theorem frame_mixed : Cert.quiescent_MixedIdeal := fun m g _ =>
  (θ_run _ _ _).mono (fun _ r => ⟨fun c => (r c).2, sem_eq_zero_of_no_sems rfl _⟩) (Cert.MixedIdeal.Value.run m g)

theorem algebraic_mixed : Cert.algebraic_OutprojIdeal_MixedIdeal := fun m g m' g' _ hag =>
  ⟨fun c => Cert.OutprojIdeal.Joined.joined m c,
    (θ_run _ _ _).mono (fun _ r c => ⟨(r c).1.trans (Cert.OutprojIdeal.Joined.value m c), (r c).2⟩) (Cert.OutprojIdeal.Value.run_blocks m g),
    (θ_run _ _ _).mono (fun _ r c => by
      obtain ⟨e0, e1, e2, e3, e4⟩ := hag c
      exact ⟨(r c).1.trans (Cert.OutprojIdeal.Joined.reference_value m c _ _ _ _ _ e0 e1 e2 e3 e4), (r c).2⟩)
      (Cert.MixedIdeal.Value.run m' g')⟩

theorem placed_ideal (m : (ℓ : Loc Cert.FetchIdeal.nD Cert.FetchIdeal.τ Cert.FetchIdeal.sig) → Buf (Elt Ideal) ℓ) (h : Cert.Pre_FetchIdeal m) :
    Cert.FetchIdeal.Fetched.Placed (F := Ideal) m :=
  fun c i => Cert.FetchIdeal.Fetched.placed_parts (F := Ideal) _ _ _ (h c) (ix2 (0 : Fin 1) i)

theorem frame_fetch_ideal : Cert.quiescent_FetchIdeal := fun m g h =>
  Cert.FetchIdeal.Fetched.frame_end m g (placed_ideal m h)

theorem frame_normed : Cert.quiescent_NormedIdeal := fun m g _ =>
  (θ_run _ _ _).mono (fun _ r => ⟨fun c => (r c).2, sem_eq_zero_of_no_sems rfl _⟩) (Cert.NormedIdeal.Value.run m g)

theorem algebraic_normed : Cert.algebraic_FetchIdeal_NormedIdeal := fun m g m' g' h hag =>
  ⟨fun c => Cert.FetchIdeal.Fetched.fetched m c,
    (θ_run _ _ _).mono (fun _ r c => ⟨(r.1 c).1.trans (Cert.FetchIdeal.Fetched.value m c), (r.1 c).2⟩)
      (Cert.FetchIdeal.Fetched.run_end m g (placed_ideal m h)),
    (θ_run _ _ _).mono (fun _ r c => by
      obtain ⟨e0, e1, e2⟩ := hag c
      exact ⟨(r c).1.trans (Cert.FetchIdeal.Fetched.reference_value m (placed_ideal m h) c _ _ _ e0 e1 e2), (r c).2⟩)
      (Cert.NormedIdeal.Value.run m' g')⟩

theorem claim : Cert.Claim := ⟨Cert.Kernel.Gen.facts, Cert.KernelIdeal.Gen.facts, Cert.ReferenceIdeal.Gen.facts, Cert.Outproj.Gen.facts,
  Cert.OutprojIdeal.Gen.facts, Cert.MixedIdeal.Gen.facts, Cert.Fetch.Gen.facts, Cert.FetchIdeal.Gen.facts, Cert.NormedIdeal.Gen.facts,
  Cert.Pre_listed.Gen.facts, Cert.Pre_routed.Gen.facts, Cert.Pre_placed.Gen.facts,
  frame_kernel, frame_ideal, frame_ideal_routed, frame_reference, fun m g _ => frame_reference m g trivial,
  fun m g _ => Cert.Outproj.Gen.frame m g, fun m g _ => Cert.OutprojIdeal.Gen.frame m g, frame_mixed,
  Cert.Fetched.frame_fetch, frame_fetch_ideal, frame_normed, fun m g _ => frame_normed m g trivial,
  trivial, algebraic, trivial, algebraic_mixed, trivial, algebraic_normed⟩

end Cert.Proof

end
